-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelMix0 (m : (ℓ : Loc Cert.KernelMix0.nD Cert.KernelMix0.τ Cert.KernelMix0.sig) → Buf (Elt Bits) ℓ) : Prop :=
  True

def Pre_KernelMix0Ideal (m : (ℓ : Loc Cert.KernelMix0Ideal.nD Cert.KernelMix0Ideal.τ Cert.KernelMix0Ideal.sig) → Buf (Elt Ideal) ℓ) : Prop :=
  True

def Pre_ReferenceMix0Ideal (m : (ℓ : Loc Cert.ReferenceMix0Ideal.nD Cert.ReferenceMix0Ideal.τ Cert.ReferenceMix0Ideal.sig) → Buf (Elt Ideal) ℓ) : Prop :=
  True

def Pre_KernelFfn1 (m : (ℓ : Loc Cert.KernelFfn1.nD Cert.KernelFfn1.τ Cert.KernelFfn1.sig) → Buf (Elt Bits) ℓ) : Prop :=
  True

def Pre_KernelFfn1Ideal (m : (ℓ : Loc Cert.KernelFfn1Ideal.nD Cert.KernelFfn1Ideal.τ Cert.KernelFfn1Ideal.sig) → Buf (Elt Ideal) ℓ) : Prop :=
  True

def Pre_ReferenceFfn1Ideal (m : (ℓ : Loc Cert.ReferenceFfn1Ideal.nD Cert.ReferenceFfn1Ideal.τ Cert.ReferenceFfn1Ideal.sig) → Buf (Elt Ideal) ℓ) : Prop :=
  True

def Pre_KernelEmbed (m : (ℓ : Loc Cert.KernelEmbed.nD Cert.KernelEmbed.τ Cert.KernelEmbed.sig) → Buf (Elt Bits) ℓ) : Prop :=
  True

def Pre_KernelEmbedIdeal (m : (ℓ : Loc Cert.KernelEmbedIdeal.nD Cert.KernelEmbedIdeal.τ Cert.KernelEmbedIdeal.sig) → Buf (Elt Ideal) ℓ) : Prop :=
  True

def Pre_ReferenceEmbedIdeal (m : (ℓ : Loc Cert.ReferenceEmbedIdeal.nD Cert.ReferenceEmbedIdeal.τ Cert.ReferenceEmbedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_KernelMix0 [hKernelMix0 : Cert.KernelMix0.Facts] : Prop :=
  ∀ (m : (ℓ : Loc Cert.KernelMix0.nD Cert.KernelMix0.τ Cert.KernelMix0.sig) → Buf (Elt Bits) ℓ) (g : Dev Cert.KernelMix0.nD → PrngReg), Pre_KernelMix0 m →
    θ_run (Cert.KernelMix0.defs (F := Bits)) (onTc (τ := Cert.KernelMix0.τ) (Cert.KernelMix0.main (F := Bits))) ⟨m, fun _ => 0, g⟩ (fun r => (∀ c : Dev Cert.KernelMix0.nD,
      r.2.mem ((c.tc : Thread Cert.KernelMix0.nD Cert.KernelMix0.τ).loc Cert.KernelMix0.main_arg0) = m ((c.tc : Thread Cert.KernelMix0.nD Cert.KernelMix0.τ).loc Cert.KernelMix0.main_arg0)
      ∧ r.2.mem ((c.tc : Thread Cert.KernelMix0.nD Cert.KernelMix0.τ).loc Cert.KernelMix0.main_arg1) = m ((c.tc : Thread Cert.KernelMix0.nD Cert.KernelMix0.τ).loc Cert.KernelMix0.main_arg1)
      ∧ r.2.mem ((c.tc : Thread Cert.KernelMix0.nD Cert.KernelMix0.τ).loc Cert.KernelMix0.main_arg2) = m ((c.tc : Thread Cert.KernelMix0.nD Cert.KernelMix0.τ).loc Cert.KernelMix0.main_arg2)
      ∧ r.2.mem ((c.tc : Thread Cert.KernelMix0.nD Cert.KernelMix0.τ).loc Cert.KernelMix0.main_arg3) = m ((c.tc : Thread Cert.KernelMix0.nD Cert.KernelMix0.τ).loc Cert.KernelMix0.main_arg3)
      ∧ r.2.mem ((c.tc : Thread Cert.KernelMix0.nD Cert.KernelMix0.τ).loc Cert.KernelMix0.main_arg4) = m ((c.tc : Thread Cert.KernelMix0.nD Cert.KernelMix0.τ).loc Cert.KernelMix0.main_arg4)
      ∧ r.2.mem ((c.tc : Thread Cert.KernelMix0.nD Cert.KernelMix0.τ).loc Cert.KernelMix0.main_arg5) = m ((c.tc : Thread Cert.KernelMix0.nD Cert.KernelMix0.τ).loc Cert.KernelMix0.main_arg5)
      ∧ r.2.mem ((c.tc : Thread Cert.KernelMix0.nD Cert.KernelMix0.τ).loc Cert.KernelMix0.main_arg6) = m ((c.tc : Thread Cert.KernelMix0.nD Cert.KernelMix0.τ).loc Cert.KernelMix0.main_arg6))
      ∧ r.2.sem = fun _ => 0)

def quiescent_KernelMix0Ideal [hKernelMix0Ideal : Cert.KernelMix0Ideal.Facts] : Prop :=
  ∀ (m : (ℓ : Loc Cert.KernelMix0Ideal.nD Cert.KernelMix0Ideal.τ Cert.KernelMix0Ideal.sig) → Buf (Elt Ideal) ℓ) (g : Dev Cert.KernelMix0Ideal.nD → PrngReg), Pre_KernelMix0Ideal m →
    θ_run (Cert.KernelMix0Ideal.defs (F := Ideal)) (onTc (τ := Cert.KernelMix0Ideal.τ) (Cert.KernelMix0Ideal.main (F := Ideal))) ⟨m, fun _ => 0, g⟩ (fun r => (∀ c : Dev Cert.KernelMix0Ideal.nD,
      r.2.mem ((c.tc : Thread Cert.KernelMix0Ideal.nD Cert.KernelMix0Ideal.τ).loc Cert.KernelMix0Ideal.main_arg0) = m ((c.tc : Thread Cert.KernelMix0Ideal.nD Cert.KernelMix0Ideal.τ).loc Cert.KernelMix0Ideal.main_arg0)
      ∧ r.2.mem ((c.tc : Thread Cert.KernelMix0Ideal.nD Cert.KernelMix0Ideal.τ).loc Cert.KernelMix0Ideal.main_arg1) = m ((c.tc : Thread Cert.KernelMix0Ideal.nD Cert.KernelMix0Ideal.τ).loc Cert.KernelMix0Ideal.main_arg1)
      ∧ r.2.mem ((c.tc : Thread Cert.KernelMix0Ideal.nD Cert.KernelMix0Ideal.τ).loc Cert.KernelMix0Ideal.main_arg2) = m ((c.tc : Thread Cert.KernelMix0Ideal.nD Cert.KernelMix0Ideal.τ).loc Cert.KernelMix0Ideal.main_arg2)
      ∧ r.2.mem ((c.tc : Thread Cert.KernelMix0Ideal.nD Cert.KernelMix0Ideal.τ).loc Cert.KernelMix0Ideal.main_arg3) = m ((c.tc : Thread Cert.KernelMix0Ideal.nD Cert.KernelMix0Ideal.τ).loc Cert.KernelMix0Ideal.main_arg3)
      ∧ r.2.mem ((c.tc : Thread Cert.KernelMix0Ideal.nD Cert.KernelMix0Ideal.τ).loc Cert.KernelMix0Ideal.main_arg4) = m ((c.tc : Thread Cert.KernelMix0Ideal.nD Cert.KernelMix0Ideal.τ).loc Cert.KernelMix0Ideal.main_arg4)
      ∧ r.2.mem ((c.tc : Thread Cert.KernelMix0Ideal.nD Cert.KernelMix0Ideal.τ).loc Cert.KernelMix0Ideal.main_arg5) = m ((c.tc : Thread Cert.KernelMix0Ideal.nD Cert.KernelMix0Ideal.τ).loc Cert.KernelMix0Ideal.main_arg5)
      ∧ r.2.mem ((c.tc : Thread Cert.KernelMix0Ideal.nD Cert.KernelMix0Ideal.τ).loc Cert.KernelMix0Ideal.main_arg6) = m ((c.tc : Thread Cert.KernelMix0Ideal.nD Cert.KernelMix0Ideal.τ).loc Cert.KernelMix0Ideal.main_arg6))
      ∧ r.2.sem = fun _ => 0)

def quiescent_ReferenceMix0Ideal [hReferenceMix0Ideal : Cert.ReferenceMix0Ideal.Facts] : Prop :=
  ∀ (m : (ℓ : Loc Cert.ReferenceMix0Ideal.nD Cert.ReferenceMix0Ideal.τ Cert.ReferenceMix0Ideal.sig) → Buf (Elt Ideal) ℓ) (g : Dev Cert.ReferenceMix0Ideal.nD → PrngReg), Pre_ReferenceMix0Ideal m →
    θ_run (Cert.ReferenceMix0Ideal.defs (F := Ideal)) (onTc (τ := Cert.ReferenceMix0Ideal.τ) (Cert.ReferenceMix0Ideal.main (F := Ideal))) ⟨m, fun _ => 0, g⟩ (fun r => (∀ c : Dev Cert.ReferenceMix0Ideal.nD,
      r.2.mem ((c.tc : Thread Cert.ReferenceMix0Ideal.nD Cert.ReferenceMix0Ideal.τ).loc Cert.ReferenceMix0Ideal.main_arg0) = m ((c.tc : Thread Cert.ReferenceMix0Ideal.nD Cert.ReferenceMix0Ideal.τ).loc Cert.ReferenceMix0Ideal.main_arg0)
      ∧ r.2.mem ((c.tc : Thread Cert.ReferenceMix0Ideal.nD Cert.ReferenceMix0Ideal.τ).loc Cert.ReferenceMix0Ideal.main_arg1) = m ((c.tc : Thread Cert.ReferenceMix0Ideal.nD Cert.ReferenceMix0Ideal.τ).loc Cert.ReferenceMix0Ideal.main_arg1)
      ∧ r.2.mem ((c.tc : Thread Cert.ReferenceMix0Ideal.nD Cert.ReferenceMix0Ideal.τ).loc Cert.ReferenceMix0Ideal.main_arg2) = m ((c.tc : Thread Cert.ReferenceMix0Ideal.nD Cert.ReferenceMix0Ideal.τ).loc Cert.ReferenceMix0Ideal.main_arg2)
      ∧ r.2.mem ((c.tc : Thread Cert.ReferenceMix0Ideal.nD Cert.ReferenceMix0Ideal.τ).loc Cert.ReferenceMix0Ideal.main_arg3) = m ((c.tc : Thread Cert.ReferenceMix0Ideal.nD Cert.ReferenceMix0Ideal.τ).loc Cert.ReferenceMix0Ideal.main_arg3)
      ∧ r.2.mem ((c.tc : Thread Cert.ReferenceMix0Ideal.nD Cert.ReferenceMix0Ideal.τ).loc Cert.ReferenceMix0Ideal.main_arg4) = m ((c.tc : Thread Cert.ReferenceMix0Ideal.nD Cert.ReferenceMix0Ideal.τ).loc Cert.ReferenceMix0Ideal.main_arg4)
      ∧ r.2.mem ((c.tc : Thread Cert.ReferenceMix0Ideal.nD Cert.ReferenceMix0Ideal.τ).loc Cert.ReferenceMix0Ideal.main_arg5) = m ((c.tc : Thread Cert.ReferenceMix0Ideal.nD Cert.ReferenceMix0Ideal.τ).loc Cert.ReferenceMix0Ideal.main_arg5)
      ∧ r.2.mem ((c.tc : Thread Cert.ReferenceMix0Ideal.nD Cert.ReferenceMix0Ideal.τ).loc Cert.ReferenceMix0Ideal.main_arg6) = m ((c.tc : Thread Cert.ReferenceMix0Ideal.nD Cert.ReferenceMix0Ideal.τ).loc Cert.ReferenceMix0Ideal.main_arg6))
      ∧ r.2.sem = fun _ => 0)

def quiescent_KernelFfn1 [hKernelFfn1 : Cert.KernelFfn1.Facts] : Prop :=
  ∀ (m : (ℓ : Loc Cert.KernelFfn1.nD Cert.KernelFfn1.τ Cert.KernelFfn1.sig) → Buf (Elt Bits) ℓ) (g : Dev Cert.KernelFfn1.nD → PrngReg), Pre_KernelFfn1 m →
    θ_run (Cert.KernelFfn1.defs (F := Bits)) (onTc (τ := Cert.KernelFfn1.τ) (Cert.KernelFfn1.main (F := Bits))) ⟨m, fun _ => 0, g⟩ (fun r => (∀ c : Dev Cert.KernelFfn1.nD,
      r.2.mem ((c.tc : Thread Cert.KernelFfn1.nD Cert.KernelFfn1.τ).loc Cert.KernelFfn1.main_arg0) = m ((c.tc : Thread Cert.KernelFfn1.nD Cert.KernelFfn1.τ).loc Cert.KernelFfn1.main_arg0)
      ∧ r.2.mem ((c.tc : Thread Cert.KernelFfn1.nD Cert.KernelFfn1.τ).loc Cert.KernelFfn1.main_arg1) = m ((c.tc : Thread Cert.KernelFfn1.nD Cert.KernelFfn1.τ).loc Cert.KernelFfn1.main_arg1)
      ∧ r.2.mem ((c.tc : Thread Cert.KernelFfn1.nD Cert.KernelFfn1.τ).loc Cert.KernelFfn1.main_arg2) = m ((c.tc : Thread Cert.KernelFfn1.nD Cert.KernelFfn1.τ).loc Cert.KernelFfn1.main_arg2)
      ∧ r.2.mem ((c.tc : Thread Cert.KernelFfn1.nD Cert.KernelFfn1.τ).loc Cert.KernelFfn1.main_arg3) = m ((c.tc : Thread Cert.KernelFfn1.nD Cert.KernelFfn1.τ).loc Cert.KernelFfn1.main_arg3))
      ∧ r.2.sem = fun _ => 0)

def quiescent_KernelFfn1Ideal [hKernelFfn1Ideal : Cert.KernelFfn1Ideal.Facts] : Prop :=
  ∀ (m : (ℓ : Loc Cert.KernelFfn1Ideal.nD Cert.KernelFfn1Ideal.τ Cert.KernelFfn1Ideal.sig) → Buf (Elt Ideal) ℓ) (g : Dev Cert.KernelFfn1Ideal.nD → PrngReg), Pre_KernelFfn1Ideal m →
    θ_run (Cert.KernelFfn1Ideal.defs (F := Ideal)) (onTc (τ := Cert.KernelFfn1Ideal.τ) (Cert.KernelFfn1Ideal.main (F := Ideal))) ⟨m, fun _ => 0, g⟩ (fun r => (∀ c : Dev Cert.KernelFfn1Ideal.nD,
      r.2.mem ((c.tc : Thread Cert.KernelFfn1Ideal.nD Cert.KernelFfn1Ideal.τ).loc Cert.KernelFfn1Ideal.main_arg0) = m ((c.tc : Thread Cert.KernelFfn1Ideal.nD Cert.KernelFfn1Ideal.τ).loc Cert.KernelFfn1Ideal.main_arg0)
      ∧ r.2.mem ((c.tc : Thread Cert.KernelFfn1Ideal.nD Cert.KernelFfn1Ideal.τ).loc Cert.KernelFfn1Ideal.main_arg1) = m ((c.tc : Thread Cert.KernelFfn1Ideal.nD Cert.KernelFfn1Ideal.τ).loc Cert.KernelFfn1Ideal.main_arg1)
      ∧ r.2.mem ((c.tc : Thread Cert.KernelFfn1Ideal.nD Cert.KernelFfn1Ideal.τ).loc Cert.KernelFfn1Ideal.main_arg2) = m ((c.tc : Thread Cert.KernelFfn1Ideal.nD Cert.KernelFfn1Ideal.τ).loc Cert.KernelFfn1Ideal.main_arg2)
      ∧ r.2.mem ((c.tc : Thread Cert.KernelFfn1Ideal.nD Cert.KernelFfn1Ideal.τ).loc Cert.KernelFfn1Ideal.main_arg3) = m ((c.tc : Thread Cert.KernelFfn1Ideal.nD Cert.KernelFfn1Ideal.τ).loc Cert.KernelFfn1Ideal.main_arg3))
      ∧ r.2.sem = fun _ => 0)

def quiescent_ReferenceFfn1Ideal [hReferenceFfn1Ideal : Cert.ReferenceFfn1Ideal.Facts] : Prop :=
  ∀ (m : (ℓ : Loc Cert.ReferenceFfn1Ideal.nD Cert.ReferenceFfn1Ideal.τ Cert.ReferenceFfn1Ideal.sig) → Buf (Elt Ideal) ℓ) (g : Dev Cert.ReferenceFfn1Ideal.nD → PrngReg), Pre_ReferenceFfn1Ideal m →
    θ_run (Cert.ReferenceFfn1Ideal.defs (F := Ideal)) (onTc (τ := Cert.ReferenceFfn1Ideal.τ) (Cert.ReferenceFfn1Ideal.main (F := Ideal))) ⟨m, fun _ => 0, g⟩ (fun r => (∀ c : Dev Cert.ReferenceFfn1Ideal.nD,
      r.2.mem ((c.tc : Thread Cert.ReferenceFfn1Ideal.nD Cert.ReferenceFfn1Ideal.τ).loc Cert.ReferenceFfn1Ideal.main_arg0) = m ((c.tc : Thread Cert.ReferenceFfn1Ideal.nD Cert.ReferenceFfn1Ideal.τ).loc Cert.ReferenceFfn1Ideal.main_arg0)
      ∧ r.2.mem ((c.tc : Thread Cert.ReferenceFfn1Ideal.nD Cert.ReferenceFfn1Ideal.τ).loc Cert.ReferenceFfn1Ideal.main_arg1) = m ((c.tc : Thread Cert.ReferenceFfn1Ideal.nD Cert.ReferenceFfn1Ideal.τ).loc Cert.ReferenceFfn1Ideal.main_arg1)
      ∧ r.2.mem ((c.tc : Thread Cert.ReferenceFfn1Ideal.nD Cert.ReferenceFfn1Ideal.τ).loc Cert.ReferenceFfn1Ideal.main_arg2) = m ((c.tc : Thread Cert.ReferenceFfn1Ideal.nD Cert.ReferenceFfn1Ideal.τ).loc Cert.ReferenceFfn1Ideal.main_arg2)
      ∧ r.2.mem ((c.tc : Thread Cert.ReferenceFfn1Ideal.nD Cert.ReferenceFfn1Ideal.τ).loc Cert.ReferenceFfn1Ideal.main_arg3) = m ((c.tc : Thread Cert.ReferenceFfn1Ideal.nD Cert.ReferenceFfn1Ideal.τ).loc Cert.ReferenceFfn1Ideal.main_arg3))
      ∧ r.2.sem = fun _ => 0)

def quiescent_KernelEmbed [hKernelEmbed : Cert.KernelEmbed.Facts] : Prop :=
  ∀ (m : (ℓ : Loc Cert.KernelEmbed.nD Cert.KernelEmbed.τ Cert.KernelEmbed.sig) → Buf (Elt Bits) ℓ) (g : Dev Cert.KernelEmbed.nD → PrngReg), Pre_KernelEmbed m →
    θ_run (Cert.KernelEmbed.defs (F := Bits)) (onTc (τ := Cert.KernelEmbed.τ) (Cert.KernelEmbed.main (F := Bits))) ⟨m, fun _ => 0, g⟩ (fun r => (∀ c : Dev Cert.KernelEmbed.nD,
      r.2.mem ((c.tc : Thread Cert.KernelEmbed.nD Cert.KernelEmbed.τ).loc Cert.KernelEmbed.main_arg0) = m ((c.tc : Thread Cert.KernelEmbed.nD Cert.KernelEmbed.τ).loc Cert.KernelEmbed.main_arg0)
      ∧ r.2.mem ((c.tc : Thread Cert.KernelEmbed.nD Cert.KernelEmbed.τ).loc Cert.KernelEmbed.main_arg1) = m ((c.tc : Thread Cert.KernelEmbed.nD Cert.KernelEmbed.τ).loc Cert.KernelEmbed.main_arg1)
      ∧ r.2.mem ((c.tc : Thread Cert.KernelEmbed.nD Cert.KernelEmbed.τ).loc Cert.KernelEmbed.main_arg2) = m ((c.tc : Thread Cert.KernelEmbed.nD Cert.KernelEmbed.τ).loc Cert.KernelEmbed.main_arg2)
      ∧ r.2.mem ((c.tc : Thread Cert.KernelEmbed.nD Cert.KernelEmbed.τ).loc Cert.KernelEmbed.main_arg3) = m ((c.tc : Thread Cert.KernelEmbed.nD Cert.KernelEmbed.τ).loc Cert.KernelEmbed.main_arg3)
      ∧ r.2.mem ((c.tc : Thread Cert.KernelEmbed.nD Cert.KernelEmbed.τ).loc Cert.KernelEmbed.main_arg4) = m ((c.tc : Thread Cert.KernelEmbed.nD Cert.KernelEmbed.τ).loc Cert.KernelEmbed.main_arg4))
      ∧ r.2.sem = fun _ => 0)

def quiescent_KernelEmbedIdeal [hKernelEmbedIdeal : Cert.KernelEmbedIdeal.Facts] : Prop :=
  ∀ (m : (ℓ : Loc Cert.KernelEmbedIdeal.nD Cert.KernelEmbedIdeal.τ Cert.KernelEmbedIdeal.sig) → Buf (Elt Ideal) ℓ) (g : Dev Cert.KernelEmbedIdeal.nD → PrngReg), Pre_KernelEmbedIdeal m →
    θ_run (Cert.KernelEmbedIdeal.defs (F := Ideal)) (onTc (τ := Cert.KernelEmbedIdeal.τ) (Cert.KernelEmbedIdeal.main (F := Ideal))) ⟨m, fun _ => 0, g⟩ (fun r => (∀ c : Dev Cert.KernelEmbedIdeal.nD,
      r.2.mem ((c.tc : Thread Cert.KernelEmbedIdeal.nD Cert.KernelEmbedIdeal.τ).loc Cert.KernelEmbedIdeal.main_arg0) = m ((c.tc : Thread Cert.KernelEmbedIdeal.nD Cert.KernelEmbedIdeal.τ).loc Cert.KernelEmbedIdeal.main_arg0)
      ∧ r.2.mem ((c.tc : Thread Cert.KernelEmbedIdeal.nD Cert.KernelEmbedIdeal.τ).loc Cert.KernelEmbedIdeal.main_arg1) = m ((c.tc : Thread Cert.KernelEmbedIdeal.nD Cert.KernelEmbedIdeal.τ).loc Cert.KernelEmbedIdeal.main_arg1)
      ∧ r.2.mem ((c.tc : Thread Cert.KernelEmbedIdeal.nD Cert.KernelEmbedIdeal.τ).loc Cert.KernelEmbedIdeal.main_arg2) = m ((c.tc : Thread Cert.KernelEmbedIdeal.nD Cert.KernelEmbedIdeal.τ).loc Cert.KernelEmbedIdeal.main_arg2)
      ∧ r.2.mem ((c.tc : Thread Cert.KernelEmbedIdeal.nD Cert.KernelEmbedIdeal.τ).loc Cert.KernelEmbedIdeal.main_arg3) = m ((c.tc : Thread Cert.KernelEmbedIdeal.nD Cert.KernelEmbedIdeal.τ).loc Cert.KernelEmbedIdeal.main_arg3)
      ∧ r.2.mem ((c.tc : Thread Cert.KernelEmbedIdeal.nD Cert.KernelEmbedIdeal.τ).loc Cert.KernelEmbedIdeal.main_arg4) = m ((c.tc : Thread Cert.KernelEmbedIdeal.nD Cert.KernelEmbedIdeal.τ).loc Cert.KernelEmbedIdeal.main_arg4))
      ∧ r.2.sem = fun _ => 0)

def quiescent_ReferenceEmbedIdeal [hReferenceEmbedIdeal : Cert.ReferenceEmbedIdeal.Facts] : Prop :=
  ∀ (m : (ℓ : Loc Cert.ReferenceEmbedIdeal.nD Cert.ReferenceEmbedIdeal.τ Cert.ReferenceEmbedIdeal.sig) → Buf (Elt Ideal) ℓ) (g : Dev Cert.ReferenceEmbedIdeal.nD → PrngReg), Pre_ReferenceEmbedIdeal m →
    θ_run (Cert.ReferenceEmbedIdeal.defs (F := Ideal)) (onTc (τ := Cert.ReferenceEmbedIdeal.τ) (Cert.ReferenceEmbedIdeal.main (F := Ideal))) ⟨m, fun _ => 0, g⟩ (fun r => (∀ c : Dev Cert.ReferenceEmbedIdeal.nD,
      r.2.mem ((c.tc : Thread Cert.ReferenceEmbedIdeal.nD Cert.ReferenceEmbedIdeal.τ).loc Cert.ReferenceEmbedIdeal.main_arg0) = m ((c.tc : Thread Cert.ReferenceEmbedIdeal.nD Cert.ReferenceEmbedIdeal.τ).loc Cert.ReferenceEmbedIdeal.main_arg0)
      ∧ r.2.mem ((c.tc : Thread Cert.ReferenceEmbedIdeal.nD Cert.ReferenceEmbedIdeal.τ).loc Cert.ReferenceEmbedIdeal.main_arg1) = m ((c.tc : Thread Cert.ReferenceEmbedIdeal.nD Cert.ReferenceEmbedIdeal.τ).loc Cert.ReferenceEmbedIdeal.main_arg1)
      ∧ r.2.mem ((c.tc : Thread Cert.ReferenceEmbedIdeal.nD Cert.ReferenceEmbedIdeal.τ).loc Cert.ReferenceEmbedIdeal.main_arg2) = m ((c.tc : Thread Cert.ReferenceEmbedIdeal.nD Cert.ReferenceEmbedIdeal.τ).loc Cert.ReferenceEmbedIdeal.main_arg2)
      ∧ r.2.mem ((c.tc : Thread Cert.ReferenceEmbedIdeal.nD Cert.ReferenceEmbedIdeal.τ).loc Cert.ReferenceEmbedIdeal.main_arg3) = m ((c.tc : Thread Cert.ReferenceEmbedIdeal.nD Cert.ReferenceEmbedIdeal.τ).loc Cert.ReferenceEmbedIdeal.main_arg3)
      ∧ r.2.mem ((c.tc : Thread Cert.ReferenceEmbedIdeal.nD Cert.ReferenceEmbedIdeal.τ).loc Cert.ReferenceEmbedIdeal.main_arg4) = m ((c.tc : Thread Cert.ReferenceEmbedIdeal.nD Cert.ReferenceEmbedIdeal.τ).loc Cert.ReferenceEmbedIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_KernelMix0_KernelMix0Ideal : Prop :=
  True

def algebraic_KernelMix0Ideal_ReferenceMix0Ideal [hKernelMix0Ideal : Cert.KernelMix0Ideal.Facts] [hReferenceMix0Ideal : Cert.ReferenceMix0Ideal.Facts] : Prop :=
  ∀ (m : (ℓ : Loc Cert.KernelMix0Ideal.nD Cert.KernelMix0Ideal.τ Cert.KernelMix0Ideal.sig) → Buf (Elt Ideal) ℓ) (g : Dev Cert.KernelMix0Ideal.nD → PrngReg)
    (m' : (ℓ : Loc Cert.ReferenceMix0Ideal.nD Cert.ReferenceMix0Ideal.τ Cert.ReferenceMix0Ideal.sig) → Buf (Elt Ideal) ℓ) (g' : Dev Cert.ReferenceMix0Ideal.nD → PrngReg), Pre_KernelMix0Ideal m →
    (∀ c : Dev Cert.KernelMix0Ideal.nD,
      m' ((c.tc : Thread Cert.ReferenceMix0Ideal.nD Cert.ReferenceMix0Ideal.τ).loc Cert.ReferenceMix0Ideal.main_arg0) = m ((c.tc : Thread Cert.KernelMix0Ideal.nD Cert.KernelMix0Ideal.τ).loc Cert.KernelMix0Ideal.main_arg0)
      ∧ m' ((c.tc : Thread Cert.ReferenceMix0Ideal.nD Cert.ReferenceMix0Ideal.τ).loc Cert.ReferenceMix0Ideal.main_arg1) = m ((c.tc : Thread Cert.KernelMix0Ideal.nD Cert.KernelMix0Ideal.τ).loc Cert.KernelMix0Ideal.main_arg1)
      ∧ m' ((c.tc : Thread Cert.ReferenceMix0Ideal.nD Cert.ReferenceMix0Ideal.τ).loc Cert.ReferenceMix0Ideal.main_arg2) = m ((c.tc : Thread Cert.KernelMix0Ideal.nD Cert.KernelMix0Ideal.τ).loc Cert.KernelMix0Ideal.main_arg2)
      ∧ m' ((c.tc : Thread Cert.ReferenceMix0Ideal.nD Cert.ReferenceMix0Ideal.τ).loc Cert.ReferenceMix0Ideal.main_arg3) = m ((c.tc : Thread Cert.KernelMix0Ideal.nD Cert.KernelMix0Ideal.τ).loc Cert.KernelMix0Ideal.main_arg3)
      ∧ m' ((c.tc : Thread Cert.ReferenceMix0Ideal.nD Cert.ReferenceMix0Ideal.τ).loc Cert.ReferenceMix0Ideal.main_arg4) = m ((c.tc : Thread Cert.KernelMix0Ideal.nD Cert.KernelMix0Ideal.τ).loc Cert.KernelMix0Ideal.main_arg4)
      ∧ m' ((c.tc : Thread Cert.ReferenceMix0Ideal.nD Cert.ReferenceMix0Ideal.τ).loc Cert.ReferenceMix0Ideal.main_arg5) = m ((c.tc : Thread Cert.KernelMix0Ideal.nD Cert.KernelMix0Ideal.τ).loc Cert.KernelMix0Ideal.main_arg5)
      ∧ m' ((c.tc : Thread Cert.ReferenceMix0Ideal.nD Cert.ReferenceMix0Ideal.τ).loc Cert.ReferenceMix0Ideal.main_arg6) = m ((c.tc : Thread Cert.KernelMix0Ideal.nD Cert.KernelMix0Ideal.τ).loc Cert.KernelMix0Ideal.main_arg6)) →
    ∃ (v0 : (c : Dev Cert.KernelMix0Ideal.nD) → Buf (Elt Ideal) ((c.tc : Thread Cert.KernelMix0Ideal.nD Cert.KernelMix0Ideal.τ).loc Cert.KernelMix0Ideal.main_v2)),
      θ_run (Cert.KernelMix0Ideal.defs (F := Ideal)) (onTc (τ := Cert.KernelMix0Ideal.τ) (Cert.KernelMix0Ideal.main (F := Ideal))) ⟨m, fun _ => 0, g⟩ (fun r => ∀ c : Dev Cert.KernelMix0Ideal.nD,
          r.2.mem ((c.tc : Thread Cert.KernelMix0Ideal.nD Cert.KernelMix0Ideal.τ).loc Cert.KernelMix0Ideal.main_v2) = v0 c
          ∧ r.2.mem ((c.tc : Thread Cert.KernelMix0Ideal.nD Cert.KernelMix0Ideal.τ).loc Cert.KernelMix0Ideal.main_arg0) = m ((c.tc : Thread Cert.KernelMix0Ideal.nD Cert.KernelMix0Ideal.τ).loc Cert.KernelMix0Ideal.main_arg0)
          ∧ r.2.mem ((c.tc : Thread Cert.KernelMix0Ideal.nD Cert.KernelMix0Ideal.τ).loc Cert.KernelMix0Ideal.main_arg1) = m ((c.tc : Thread Cert.KernelMix0Ideal.nD Cert.KernelMix0Ideal.τ).loc Cert.KernelMix0Ideal.main_arg1)
          ∧ r.2.mem ((c.tc : Thread Cert.KernelMix0Ideal.nD Cert.KernelMix0Ideal.τ).loc Cert.KernelMix0Ideal.main_arg2) = m ((c.tc : Thread Cert.KernelMix0Ideal.nD Cert.KernelMix0Ideal.τ).loc Cert.KernelMix0Ideal.main_arg2)
          ∧ r.2.mem ((c.tc : Thread Cert.KernelMix0Ideal.nD Cert.KernelMix0Ideal.τ).loc Cert.KernelMix0Ideal.main_arg3) = m ((c.tc : Thread Cert.KernelMix0Ideal.nD Cert.KernelMix0Ideal.τ).loc Cert.KernelMix0Ideal.main_arg3)
          ∧ r.2.mem ((c.tc : Thread Cert.KernelMix0Ideal.nD Cert.KernelMix0Ideal.τ).loc Cert.KernelMix0Ideal.main_arg4) = m ((c.tc : Thread Cert.KernelMix0Ideal.nD Cert.KernelMix0Ideal.τ).loc Cert.KernelMix0Ideal.main_arg4)
          ∧ r.2.mem ((c.tc : Thread Cert.KernelMix0Ideal.nD Cert.KernelMix0Ideal.τ).loc Cert.KernelMix0Ideal.main_arg5) = m ((c.tc : Thread Cert.KernelMix0Ideal.nD Cert.KernelMix0Ideal.τ).loc Cert.KernelMix0Ideal.main_arg5)
          ∧ r.2.mem ((c.tc : Thread Cert.KernelMix0Ideal.nD Cert.KernelMix0Ideal.τ).loc Cert.KernelMix0Ideal.main_arg6) = m ((c.tc : Thread Cert.KernelMix0Ideal.nD Cert.KernelMix0Ideal.τ).loc Cert.KernelMix0Ideal.main_arg6))
      ∧ θ_run (Cert.ReferenceMix0Ideal.defs (F := Ideal)) (onTc (τ := Cert.ReferenceMix0Ideal.τ) (Cert.ReferenceMix0Ideal.main (F := Ideal))) ⟨m', fun _ => 0, g'⟩ (fun r => ∀ c : Dev Cert.ReferenceMix0Ideal.nD,
          r.2.mem ((c.tc : Thread Cert.ReferenceMix0Ideal.nD Cert.ReferenceMix0Ideal.τ).loc Cert.ReferenceMix0Ideal.main_v73) = v0 c
          ∧ r.2.mem ((c.tc : Thread Cert.ReferenceMix0Ideal.nD Cert.ReferenceMix0Ideal.τ).loc Cert.ReferenceMix0Ideal.main_arg0) = m' ((c.tc : Thread Cert.ReferenceMix0Ideal.nD Cert.ReferenceMix0Ideal.τ).loc Cert.ReferenceMix0Ideal.main_arg0)
          ∧ r.2.mem ((c.tc : Thread Cert.ReferenceMix0Ideal.nD Cert.ReferenceMix0Ideal.τ).loc Cert.ReferenceMix0Ideal.main_arg1) = m' ((c.tc : Thread Cert.ReferenceMix0Ideal.nD Cert.ReferenceMix0Ideal.τ).loc Cert.ReferenceMix0Ideal.main_arg1)
          ∧ r.2.mem ((c.tc : Thread Cert.ReferenceMix0Ideal.nD Cert.ReferenceMix0Ideal.τ).loc Cert.ReferenceMix0Ideal.main_arg2) = m' ((c.tc : Thread Cert.ReferenceMix0Ideal.nD Cert.ReferenceMix0Ideal.τ).loc Cert.ReferenceMix0Ideal.main_arg2)
          ∧ r.2.mem ((c.tc : Thread Cert.ReferenceMix0Ideal.nD Cert.ReferenceMix0Ideal.τ).loc Cert.ReferenceMix0Ideal.main_arg3) = m' ((c.tc : Thread Cert.ReferenceMix0Ideal.nD Cert.ReferenceMix0Ideal.τ).loc Cert.ReferenceMix0Ideal.main_arg3)
          ∧ r.2.mem ((c.tc : Thread Cert.ReferenceMix0Ideal.nD Cert.ReferenceMix0Ideal.τ).loc Cert.ReferenceMix0Ideal.main_arg4) = m' ((c.tc : Thread Cert.ReferenceMix0Ideal.nD Cert.ReferenceMix0Ideal.τ).loc Cert.ReferenceMix0Ideal.main_arg4)
          ∧ r.2.mem ((c.tc : Thread Cert.ReferenceMix0Ideal.nD Cert.ReferenceMix0Ideal.τ).loc Cert.ReferenceMix0Ideal.main_arg5) = m' ((c.tc : Thread Cert.ReferenceMix0Ideal.nD Cert.ReferenceMix0Ideal.τ).loc Cert.ReferenceMix0Ideal.main_arg5)
          ∧ r.2.mem ((c.tc : Thread Cert.ReferenceMix0Ideal.nD Cert.ReferenceMix0Ideal.τ).loc Cert.ReferenceMix0Ideal.main_arg6) = m' ((c.tc : Thread Cert.ReferenceMix0Ideal.nD Cert.ReferenceMix0Ideal.τ).loc Cert.ReferenceMix0Ideal.main_arg6))

def preserves_KernelFfn1_KernelFfn1Ideal : Prop :=
  True

def algebraic_KernelFfn1Ideal_ReferenceFfn1Ideal [hKernelFfn1Ideal : Cert.KernelFfn1Ideal.Facts] [hReferenceFfn1Ideal : Cert.ReferenceFfn1Ideal.Facts] : Prop :=
  ∀ (m : (ℓ : Loc Cert.KernelFfn1Ideal.nD Cert.KernelFfn1Ideal.τ Cert.KernelFfn1Ideal.sig) → Buf (Elt Ideal) ℓ) (g : Dev Cert.KernelFfn1Ideal.nD → PrngReg)
    (m' : (ℓ : Loc Cert.ReferenceFfn1Ideal.nD Cert.ReferenceFfn1Ideal.τ Cert.ReferenceFfn1Ideal.sig) → Buf (Elt Ideal) ℓ) (g' : Dev Cert.ReferenceFfn1Ideal.nD → PrngReg), Pre_KernelFfn1Ideal m →
    (∀ c : Dev Cert.KernelFfn1Ideal.nD,
      m' ((c.tc : Thread Cert.ReferenceFfn1Ideal.nD Cert.ReferenceFfn1Ideal.τ).loc Cert.ReferenceFfn1Ideal.main_arg0) = m ((c.tc : Thread Cert.KernelFfn1Ideal.nD Cert.KernelFfn1Ideal.τ).loc Cert.KernelFfn1Ideal.main_arg0)
      ∧ m' ((c.tc : Thread Cert.ReferenceFfn1Ideal.nD Cert.ReferenceFfn1Ideal.τ).loc Cert.ReferenceFfn1Ideal.main_arg1) = m ((c.tc : Thread Cert.KernelFfn1Ideal.nD Cert.KernelFfn1Ideal.τ).loc Cert.KernelFfn1Ideal.main_arg1)
      ∧ m' ((c.tc : Thread Cert.ReferenceFfn1Ideal.nD Cert.ReferenceFfn1Ideal.τ).loc Cert.ReferenceFfn1Ideal.main_arg2) = m ((c.tc : Thread Cert.KernelFfn1Ideal.nD Cert.KernelFfn1Ideal.τ).loc Cert.KernelFfn1Ideal.main_arg2)
      ∧ m' ((c.tc : Thread Cert.ReferenceFfn1Ideal.nD Cert.ReferenceFfn1Ideal.τ).loc Cert.ReferenceFfn1Ideal.main_arg3) = m ((c.tc : Thread Cert.KernelFfn1Ideal.nD Cert.KernelFfn1Ideal.τ).loc Cert.KernelFfn1Ideal.main_arg3)) →
    ∃ (v0 : (c : Dev Cert.KernelFfn1Ideal.nD) → Buf (Elt Ideal) ((c.tc : Thread Cert.KernelFfn1Ideal.nD Cert.KernelFfn1Ideal.τ).loc Cert.KernelFfn1Ideal.main_v1)),
      θ_run (Cert.KernelFfn1Ideal.defs (F := Ideal)) (onTc (τ := Cert.KernelFfn1Ideal.τ) (Cert.KernelFfn1Ideal.main (F := Ideal))) ⟨m, fun _ => 0, g⟩ (fun r => ∀ c : Dev Cert.KernelFfn1Ideal.nD,
          r.2.mem ((c.tc : Thread Cert.KernelFfn1Ideal.nD Cert.KernelFfn1Ideal.τ).loc Cert.KernelFfn1Ideal.main_v1) = v0 c
          ∧ r.2.mem ((c.tc : Thread Cert.KernelFfn1Ideal.nD Cert.KernelFfn1Ideal.τ).loc Cert.KernelFfn1Ideal.main_arg0) = m ((c.tc : Thread Cert.KernelFfn1Ideal.nD Cert.KernelFfn1Ideal.τ).loc Cert.KernelFfn1Ideal.main_arg0)
          ∧ r.2.mem ((c.tc : Thread Cert.KernelFfn1Ideal.nD Cert.KernelFfn1Ideal.τ).loc Cert.KernelFfn1Ideal.main_arg1) = m ((c.tc : Thread Cert.KernelFfn1Ideal.nD Cert.KernelFfn1Ideal.τ).loc Cert.KernelFfn1Ideal.main_arg1)
          ∧ r.2.mem ((c.tc : Thread Cert.KernelFfn1Ideal.nD Cert.KernelFfn1Ideal.τ).loc Cert.KernelFfn1Ideal.main_arg2) = m ((c.tc : Thread Cert.KernelFfn1Ideal.nD Cert.KernelFfn1Ideal.τ).loc Cert.KernelFfn1Ideal.main_arg2)
          ∧ r.2.mem ((c.tc : Thread Cert.KernelFfn1Ideal.nD Cert.KernelFfn1Ideal.τ).loc Cert.KernelFfn1Ideal.main_arg3) = m ((c.tc : Thread Cert.KernelFfn1Ideal.nD Cert.KernelFfn1Ideal.τ).loc Cert.KernelFfn1Ideal.main_arg3))
      ∧ θ_run (Cert.ReferenceFfn1Ideal.defs (F := Ideal)) (onTc (τ := Cert.ReferenceFfn1Ideal.τ) (Cert.ReferenceFfn1Ideal.main (F := Ideal))) ⟨m', fun _ => 0, g'⟩ (fun r => ∀ c : Dev Cert.ReferenceFfn1Ideal.nD,
          r.2.mem ((c.tc : Thread Cert.ReferenceFfn1Ideal.nD Cert.ReferenceFfn1Ideal.τ).loc Cert.ReferenceFfn1Ideal.main_v47) = v0 c
          ∧ r.2.mem ((c.tc : Thread Cert.ReferenceFfn1Ideal.nD Cert.ReferenceFfn1Ideal.τ).loc Cert.ReferenceFfn1Ideal.main_arg0) = m' ((c.tc : Thread Cert.ReferenceFfn1Ideal.nD Cert.ReferenceFfn1Ideal.τ).loc Cert.ReferenceFfn1Ideal.main_arg0)
          ∧ r.2.mem ((c.tc : Thread Cert.ReferenceFfn1Ideal.nD Cert.ReferenceFfn1Ideal.τ).loc Cert.ReferenceFfn1Ideal.main_arg1) = m' ((c.tc : Thread Cert.ReferenceFfn1Ideal.nD Cert.ReferenceFfn1Ideal.τ).loc Cert.ReferenceFfn1Ideal.main_arg1)
          ∧ r.2.mem ((c.tc : Thread Cert.ReferenceFfn1Ideal.nD Cert.ReferenceFfn1Ideal.τ).loc Cert.ReferenceFfn1Ideal.main_arg2) = m' ((c.tc : Thread Cert.ReferenceFfn1Ideal.nD Cert.ReferenceFfn1Ideal.τ).loc Cert.ReferenceFfn1Ideal.main_arg2)
          ∧ r.2.mem ((c.tc : Thread Cert.ReferenceFfn1Ideal.nD Cert.ReferenceFfn1Ideal.τ).loc Cert.ReferenceFfn1Ideal.main_arg3) = m' ((c.tc : Thread Cert.ReferenceFfn1Ideal.nD Cert.ReferenceFfn1Ideal.τ).loc Cert.ReferenceFfn1Ideal.main_arg3))

def preserves_KernelEmbed_KernelEmbedIdeal : Prop :=
  True

def algebraic_KernelEmbedIdeal_ReferenceEmbedIdeal [hKernelEmbedIdeal : Cert.KernelEmbedIdeal.Facts] [hReferenceEmbedIdeal : Cert.ReferenceEmbedIdeal.Facts] : Prop :=
  ∀ (m : (ℓ : Loc Cert.KernelEmbedIdeal.nD Cert.KernelEmbedIdeal.τ Cert.KernelEmbedIdeal.sig) → Buf (Elt Ideal) ℓ) (g : Dev Cert.KernelEmbedIdeal.nD → PrngReg)
    (m' : (ℓ : Loc Cert.ReferenceEmbedIdeal.nD Cert.ReferenceEmbedIdeal.τ Cert.ReferenceEmbedIdeal.sig) → Buf (Elt Ideal) ℓ) (g' : Dev Cert.ReferenceEmbedIdeal.nD → PrngReg), Pre_KernelEmbedIdeal m →
    (∀ c : Dev Cert.KernelEmbedIdeal.nD,
      m' ((c.tc : Thread Cert.ReferenceEmbedIdeal.nD Cert.ReferenceEmbedIdeal.τ).loc Cert.ReferenceEmbedIdeal.main_arg0) = m ((c.tc : Thread Cert.KernelEmbedIdeal.nD Cert.KernelEmbedIdeal.τ).loc Cert.KernelEmbedIdeal.main_arg0)
      ∧ m' ((c.tc : Thread Cert.ReferenceEmbedIdeal.nD Cert.ReferenceEmbedIdeal.τ).loc Cert.ReferenceEmbedIdeal.main_arg1) = m ((c.tc : Thread Cert.KernelEmbedIdeal.nD Cert.KernelEmbedIdeal.τ).loc Cert.KernelEmbedIdeal.main_arg1)
      ∧ m' ((c.tc : Thread Cert.ReferenceEmbedIdeal.nD Cert.ReferenceEmbedIdeal.τ).loc Cert.ReferenceEmbedIdeal.main_arg2) = m ((c.tc : Thread Cert.KernelEmbedIdeal.nD Cert.KernelEmbedIdeal.τ).loc Cert.KernelEmbedIdeal.main_arg2)
      ∧ m' ((c.tc : Thread Cert.ReferenceEmbedIdeal.nD Cert.ReferenceEmbedIdeal.τ).loc Cert.ReferenceEmbedIdeal.main_arg3) = m ((c.tc : Thread Cert.KernelEmbedIdeal.nD Cert.KernelEmbedIdeal.τ).loc Cert.KernelEmbedIdeal.main_arg3)
      ∧ m' ((c.tc : Thread Cert.ReferenceEmbedIdeal.nD Cert.ReferenceEmbedIdeal.τ).loc Cert.ReferenceEmbedIdeal.main_arg4) = m ((c.tc : Thread Cert.KernelEmbedIdeal.nD Cert.KernelEmbedIdeal.τ).loc Cert.KernelEmbedIdeal.main_arg4)) →
    ∃ (v0 : (c : Dev Cert.KernelEmbedIdeal.nD) → Buf (Elt Ideal) ((c.tc : Thread Cert.KernelEmbedIdeal.nD Cert.KernelEmbedIdeal.τ).loc Cert.KernelEmbedIdeal.main_v3)),
      θ_run (Cert.KernelEmbedIdeal.defs (F := Ideal)) (onTc (τ := Cert.KernelEmbedIdeal.τ) (Cert.KernelEmbedIdeal.main (F := Ideal))) ⟨m, fun _ => 0, g⟩ (fun r => ∀ c : Dev Cert.KernelEmbedIdeal.nD,
          r.2.mem ((c.tc : Thread Cert.KernelEmbedIdeal.nD Cert.KernelEmbedIdeal.τ).loc Cert.KernelEmbedIdeal.main_v3) = v0 c
          ∧ r.2.mem ((c.tc : Thread Cert.KernelEmbedIdeal.nD Cert.KernelEmbedIdeal.τ).loc Cert.KernelEmbedIdeal.main_arg0) = m ((c.tc : Thread Cert.KernelEmbedIdeal.nD Cert.KernelEmbedIdeal.τ).loc Cert.KernelEmbedIdeal.main_arg0)
          ∧ r.2.mem ((c.tc : Thread Cert.KernelEmbedIdeal.nD Cert.KernelEmbedIdeal.τ).loc Cert.KernelEmbedIdeal.main_arg1) = m ((c.tc : Thread Cert.KernelEmbedIdeal.nD Cert.KernelEmbedIdeal.τ).loc Cert.KernelEmbedIdeal.main_arg1)
          ∧ r.2.mem ((c.tc : Thread Cert.KernelEmbedIdeal.nD Cert.KernelEmbedIdeal.τ).loc Cert.KernelEmbedIdeal.main_arg2) = m ((c.tc : Thread Cert.KernelEmbedIdeal.nD Cert.KernelEmbedIdeal.τ).loc Cert.KernelEmbedIdeal.main_arg2)
          ∧ r.2.mem ((c.tc : Thread Cert.KernelEmbedIdeal.nD Cert.KernelEmbedIdeal.τ).loc Cert.KernelEmbedIdeal.main_arg3) = m ((c.tc : Thread Cert.KernelEmbedIdeal.nD Cert.KernelEmbedIdeal.τ).loc Cert.KernelEmbedIdeal.main_arg3)
          ∧ r.2.mem ((c.tc : Thread Cert.KernelEmbedIdeal.nD Cert.KernelEmbedIdeal.τ).loc Cert.KernelEmbedIdeal.main_arg4) = m ((c.tc : Thread Cert.KernelEmbedIdeal.nD Cert.KernelEmbedIdeal.τ).loc Cert.KernelEmbedIdeal.main_arg4))
      ∧ θ_run (Cert.ReferenceEmbedIdeal.defs (F := Ideal)) (onTc (τ := Cert.ReferenceEmbedIdeal.τ) (Cert.ReferenceEmbedIdeal.main (F := Ideal))) ⟨m', fun _ => 0, g'⟩ (fun r => ∀ c : Dev Cert.ReferenceEmbedIdeal.nD,
          r.2.mem ((c.tc : Thread Cert.ReferenceEmbedIdeal.nD Cert.ReferenceEmbedIdeal.τ).loc Cert.ReferenceEmbedIdeal.main_v48) = v0 c
          ∧ r.2.mem ((c.tc : Thread Cert.ReferenceEmbedIdeal.nD Cert.ReferenceEmbedIdeal.τ).loc Cert.ReferenceEmbedIdeal.main_arg0) = m' ((c.tc : Thread Cert.ReferenceEmbedIdeal.nD Cert.ReferenceEmbedIdeal.τ).loc Cert.ReferenceEmbedIdeal.main_arg0)
          ∧ r.2.mem ((c.tc : Thread Cert.ReferenceEmbedIdeal.nD Cert.ReferenceEmbedIdeal.τ).loc Cert.ReferenceEmbedIdeal.main_arg1) = m' ((c.tc : Thread Cert.ReferenceEmbedIdeal.nD Cert.ReferenceEmbedIdeal.τ).loc Cert.ReferenceEmbedIdeal.main_arg1)
          ∧ r.2.mem ((c.tc : Thread Cert.ReferenceEmbedIdeal.nD Cert.ReferenceEmbedIdeal.τ).loc Cert.ReferenceEmbedIdeal.main_arg2) = m' ((c.tc : Thread Cert.ReferenceEmbedIdeal.nD Cert.ReferenceEmbedIdeal.τ).loc Cert.ReferenceEmbedIdeal.main_arg2)
          ∧ r.2.mem ((c.tc : Thread Cert.ReferenceEmbedIdeal.nD Cert.ReferenceEmbedIdeal.τ).loc Cert.ReferenceEmbedIdeal.main_arg3) = m' ((c.tc : Thread Cert.ReferenceEmbedIdeal.nD Cert.ReferenceEmbedIdeal.τ).loc Cert.ReferenceEmbedIdeal.main_arg3)
          ∧ r.2.mem ((c.tc : Thread Cert.ReferenceEmbedIdeal.nD Cert.ReferenceEmbedIdeal.τ).loc Cert.ReferenceEmbedIdeal.main_arg4) = m' ((c.tc : Thread Cert.ReferenceEmbedIdeal.nD Cert.ReferenceEmbedIdeal.τ).loc Cert.ReferenceEmbedIdeal.main_arg4))

def Claim : Prop :=
  ∃ (hKernel : Cert.Kernel.Facts) (hKernelIdeal : Cert.KernelIdeal.Facts) (hReferenceIdeal : Cert.ReferenceIdeal.Facts) (hKernelMix0 : Cert.KernelMix0.Facts) (hKernelMix0Ideal : Cert.KernelMix0Ideal.Facts) (hReferenceMix0Ideal : Cert.ReferenceMix0Ideal.Facts) (hKernelFfn1 : Cert.KernelFfn1.Facts) (hKernelFfn1Ideal : Cert.KernelFfn1Ideal.Facts) (hReferenceFfn1Ideal : Cert.ReferenceFfn1Ideal.Facts) (hKernelEmbed : Cert.KernelEmbed.Facts) (hKernelEmbedIdeal : Cert.KernelEmbedIdeal.Facts) (hReferenceEmbedIdeal : Cert.ReferenceEmbedIdeal.Facts),
    quiescent_Kernel (hKernel := hKernel)
    ∧ quiescent_KernelIdeal (hKernelIdeal := hKernelIdeal)
    ∧ quiescent_ReferenceIdeal (hReferenceIdeal := hReferenceIdeal)
    ∧ quiescent_KernelMix0 (hKernelMix0 := hKernelMix0)
    ∧ quiescent_KernelMix0Ideal (hKernelMix0Ideal := hKernelMix0Ideal)
    ∧ quiescent_ReferenceMix0Ideal (hReferenceMix0Ideal := hReferenceMix0Ideal)
    ∧ quiescent_KernelFfn1 (hKernelFfn1 := hKernelFfn1)
    ∧ quiescent_KernelFfn1Ideal (hKernelFfn1Ideal := hKernelFfn1Ideal)
    ∧ quiescent_ReferenceFfn1Ideal (hReferenceFfn1Ideal := hReferenceFfn1Ideal)
    ∧ quiescent_KernelEmbed (hKernelEmbed := hKernelEmbed)
    ∧ quiescent_KernelEmbedIdeal (hKernelEmbedIdeal := hKernelEmbedIdeal)
    ∧ quiescent_ReferenceEmbedIdeal (hReferenceEmbedIdeal := hReferenceEmbedIdeal)
    ∧ preserves_Kernel_KernelIdeal
    ∧ algebraic_KernelIdeal_ReferenceIdeal (hKernelIdeal := hKernelIdeal) (hReferenceIdeal := hReferenceIdeal)
    ∧ preserves_KernelMix0_KernelMix0Ideal
    ∧ algebraic_KernelMix0Ideal_ReferenceMix0Ideal (hKernelMix0Ideal := hKernelMix0Ideal) (hReferenceMix0Ideal := hReferenceMix0Ideal)
    ∧ preserves_KernelFfn1_KernelFfn1Ideal
    ∧ algebraic_KernelFfn1Ideal_ReferenceFfn1Ideal (hKernelFfn1Ideal := hKernelFfn1Ideal) (hReferenceFfn1Ideal := hReferenceFfn1Ideal)
    ∧ preserves_KernelEmbed_KernelEmbedIdeal
    ∧ algebraic_KernelEmbedIdeal_ReferenceEmbedIdeal (hKernelEmbedIdeal := hKernelEmbedIdeal) (hReferenceEmbedIdeal := hReferenceEmbedIdeal)
-- ==== Kernel.lean ====
abbrev S16896x1024 : Shape := ⟨2, ![16896, 1024]⟩
abbrev S16896x512 : Shape := ⟨2, ![16896, 512]⟩
abbrev S2x6x1024 : Shape := ⟨3, ![2, 6, 1024]⟩
abbrev S2x1024x5632 : Shape := ⟨3, ![2, 1024, 5632]⟩
abbrev S2x2816x1024 : Shape := ⟨3, ![2, 2816, 1024]⟩
abbrev S2x1024x1024 : Shape := ⟨3, ![2, 1024, 1024]⟩
abbrev S12x1x1024 : Shape := ⟨3, ![12, 1, 1024]⟩
abbrev S16384x1024 : Shape := ⟨2, ![16384, 1024]⟩
abbrev S512x1024 : Shape := ⟨2, ![512, 1024]⟩
abbrev S512x512 : Shape := ⟨2, ![512, 512]⟩
abbrev S1x1024x1024 : Shape := ⟨3, ![1, 1024, 1024]⟩
abbrev S1x1x1024 : Shape := ⟨3, ![1, 1, 1024]⟩
abbrev S1x128x5632 : Shape := ⟨3, ![1, 128, 5632]⟩
abbrev S1x352x1024 : Shape := ⟨3, ![1, 352, 1024]⟩
abbrev S1024x5632 : Shape := ⟨2, ![1024, 5632]⟩
abbrev S2816x1024 : Shape := ⟨2, ![2816, 1024]⟩
abbrev S128x5632 : Shape := ⟨2, ![128, 5632]⟩
abbrev S352x1024 : Shape := ⟨2, ![352, 1024]⟩
abbrev S1x512x1024 : Shape := ⟨3, ![1, 512, 1024]⟩
abbrev S1x1024 : Shape := ⟨2, ![1, 1024]⟩
abbrev S512 : Shape := ⟨1, ![512]⟩
abbrev S512x1 : Shape := ⟨2, ![512, 1]⟩
abbrev S512x5632 : Shape := ⟨2, ![512, 5632]⟩
abbrev S512x2816 : Shape := ⟨2, ![512, 2816]⟩

abbrev nBuf : Space → Nat
  | .hbm => 10
  | .vmem => 18
  | .smem => 0
  | _ => 0

abbrev bufTy : (tb : Table) → Fin (tcTables nBuf tb) → BufTy
  | .hbm, ⟨0, _⟩ => ⟨S16896x1024, .f32⟩
  | .hbm, ⟨1, _⟩ => ⟨S16896x512, .bf16⟩
  | .hbm, ⟨2, _⟩ => ⟨S16896x512, .bf16⟩
  | .hbm, ⟨3, _⟩ => ⟨S2x6x1024, .f32⟩
  | .hbm, ⟨4, _⟩ => ⟨S2x1024x5632, .f32⟩
  | .hbm, ⟨5, _⟩ => ⟨S2x2816x1024, .f32⟩
  | .hbm, ⟨6, _⟩ => ⟨S2x1024x1024, .f32⟩
  | .hbm, ⟨7, _⟩ => ⟨S2x1024x1024, .bf16⟩
  | .hbm, ⟨8, _⟩ => ⟨S12x1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x1024x1024, .bf16⟩
  | .local _ .vmem, ⟨7, _⟩ => ⟨S1x1x1024, .f32⟩
  | .local _ .vmem, ⟨8, _⟩ => ⟨S1x1x1024, .f32⟩
  | .local _ .vmem, ⟨9, _⟩ => ⟨S1x128x5632, .f32⟩
  | .local _ .vmem, ⟨10, _⟩ => ⟨S1x128x5632, .f32⟩
  | .local _ .vmem, ⟨11, _⟩ => ⟨S1x352x1024, .f32⟩
  | .local _ .vmem, ⟨12, _⟩ => ⟨S1x352x1024, .f32⟩
  | .local _ .vmem, ⟨13, _⟩ => ⟨S1x1x1024, .f32⟩
  | .local _ .vmem, ⟨14, _⟩ => ⟨S512x1024, .f32⟩
  | .local _ .vmem, ⟨15, _⟩ => ⟨S512x1024, .f32⟩
  | .local _ .vmem, ⟨16, _⟩ => ⟨S1024x5632, .bf16⟩
  | .local _ .vmem, ⟨17, _⟩ => ⟨S2816x1024, .bf16⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![40], ![false]⟩

def k0_mult1 (i : grid0.Coords) : BitVec 32 :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c4_i32 : BitVec 32 := 4#32
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c2112_i32 : BitVec 32 := 2112#32
  let v19 : BitVec 32 := Scalar.muli v18 c2112_i32
  let c16_i32 : BitVec 32 := 16#32
  let v20 : BitVec 32 := Scalar.addi v19 c16_i32
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v1 v22
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let c0_i32_8 : BitVec 32 := 0#32
  let v24 : BitVec 1 := Scalar.cmpi .ne v23 c0_i32_8
  let v28 : BitVec 1 := Scalar.andi v27 v24
  let v29 : BitVec 32 := Scalar.addi v23 v22
  let v30 : BitVec 32 := Scalar.select v28 v29 v23
  let c512_i32 : BitVec 32 := 512#32
  let v31 : BitVec 32 := Scalar.muli v30 c512_i32
  let v32 : BitVec 32 := Scalar.addi v20 v31
  v32
def k0_mult2 (i : grid0.Coords) : BitVec 32 :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c4_i32 : BitVec 32 := 4#32
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c2112_i32 : BitVec 32 := 2112#32
  let v19 : BitVec 32 := Scalar.muli v18 c2112_i32
  let c16_i32 : BitVec 32 := 16#32
  let v20 : BitVec 32 := Scalar.addi v19 c16_i32
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v1 v22
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let c0_i32_8 : BitVec 32 := 0#32
  let v24 : BitVec 1 := Scalar.cmpi .ne v23 c0_i32_8
  let v28 : BitVec 1 := Scalar.andi v27 v24
  let v29 : BitVec 32 := Scalar.addi v23 v22
  let v30 : BitVec 32 := Scalar.select v28 v29 v23
  let c512_i32 : BitVec 32 := 512#32
  let v31 : BitVec 32 := Scalar.muli v30 c512_i32
  let v32 : BitVec 32 := Scalar.addi v20 v31
  v32
def k0_mult3 (i : grid0.Coords) : BitVec 32 :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c4_i32 : BitVec 32 := 4#32
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c2112_i32 : BitVec 32 := 2112#32
  let v19 : BitVec 32 := Scalar.muli v18 c2112_i32
  let c16_i32 : BitVec 32 := 16#32
  let v20 : BitVec 32 := Scalar.addi v19 c16_i32
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v1 v22
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let c0_i32_8 : BitVec 32 := 0#32
  let v24 : BitVec 1 := Scalar.cmpi .ne v23 c0_i32_8
  let v28 : BitVec 1 := Scalar.andi v27 v24
  let v29 : BitVec 32 := Scalar.addi v23 v22
  let v30 : BitVec 32 := Scalar.select v28 v29 v23
  let c512_i32 : BitVec 32 := 512#32
  let v31 : BitVec 32 := Scalar.muli v30 c512_i32
  let v32 : BitVec 32 := Scalar.addi v20 v31
  v32
def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_mult4 (i : grid0.Coords) : BitVec 32 :=
  let arg0 : BitVec 32 := BitVec.ofNat 32 (i 0).val
  let c128_i32 : BitVec 32 := 128#32
  let v9 : BitVec 32 := Scalar.muli arg0 c128_i32
  v9
def k0_off1 (i : grid0.Coords) : Fin 2 → Nat :=
  let arg0 : BitVec 32 := BitVec.ofNat 32 (i 0).val
  let c128_i32 : BitVec 32 := 128#32
  let v9 : BitVec 32 := Scalar.muli arg0 c128_i32
  let v10 : BitVec 32 := v9
  let v11 : Index := Scalar.indexCast v10
  let c0_4 : Index := 0#32
  ![v11.toNat, 0]
def k0_mult5 (i : grid0.Coords) : BitVec 32 :=
  let arg0 : BitVec 32 := BitVec.ofNat 32 (i 0).val
  let c352_i32 : BitVec 32 := 352#32
  let v18 : BitVec 32 := Scalar.muli arg0 c352_i32
  v18
def k0_off2 (i : grid0.Coords) : Fin 2 → Nat :=
  let arg0 : BitVec 32 := BitVec.ofNat 32 (i 0).val
  let c352_i32 : BitVec 32 := 352#32
  let v18 : BitVec 32 := Scalar.muli arg0 c352_i32
  let v19 : BitVec 32 := v18
  let v20 : Index := Scalar.indexCast v19
  let c0_8 : Index := 0#32
  ![v20.toNat, 0]
def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2112_i32 : BitVec 32 := 2112#32
  let v19 : BitVec 32 := Scalar.muli v18 c2112_i32
  let c16_i32 : BitVec 32 := 16#32
  let v20 : BitVec 32 := Scalar.addi v19 c16_i32
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c512_i32 : BitVec 32 := 512#32
  let v31 : BitVec 32 := Scalar.muli v30 c512_i32
  let v32 : BitVec 32 := Scalar.addi v20 v31
  let v33 : BitVec 32 := v32
  let c0_i32_11 : BitVec 32 := 0#32
  let c0_i32_12 : BitVec 32 := 0#32
  ![v33.toNat, c0_i32_11.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2112_i32 : BitVec 32 := 2112#32
  let v19 : BitVec 32 := Scalar.muli v18 c2112_i32
  let c16_i32 : BitVec 32 := 16#32
  let v20 : BitVec 32 := Scalar.addi v19 c16_i32
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c512_i32 : BitVec 32 := 512#32
  let v31 : BitVec 32 := Scalar.muli v30 c512_i32
  let v32 : BitVec 32 := Scalar.addi v20 v31
  let v33 : BitVec 32 := v32
  let c0_i32_11 : BitVec 32 := 0#32
  let c0_i32_12 : BitVec 32 := 0#32
  ![v33.toNat, c0_i32_11.toNat]

def cc0_transform_2 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2112_i32 : BitVec 32 := 2112#32
  let v19 : BitVec 32 := Scalar.muli v18 c2112_i32
  let c16_i32 : BitVec 32 := 16#32
  let v20 : BitVec 32 := Scalar.addi v19 c16_i32
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c512_i32 : BitVec 32 := 512#32
  let v31 : BitVec 32 := Scalar.muli v30 c512_i32
  let v32 : BitVec 32 := Scalar.addi v20 v31
  let v33 : BitVec 32 := v32
  let c0_i32_11 : BitVec 32 := 0#32
  let c0_i32_12 : BitVec 32 := 0#32
  ![v33.toNat, c0_i32_11.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c9_i32 : BitVec 32 := 9#32
  let c0_i32 : BitVec 32 := 0#32
  let c0_i32_0 : BitVec 32 := 0#32
  let c0_i32_1 : BitVec 32 := 0#32
  ![c9_i32.toNat, c0_i32.toNat, c0_i32_0.toNat]

def cc0_transform_5 (i : grid0.Coords) : Fin 3 → Nat :=
  let arg0 : BitVec 32 := BitVec.ofNat 32 (i 0).val
  let c10_i32 : BitVec 32 := 10#32
  let c0_i32 : BitVec 32 := 0#32
  let c0_i32_0 : BitVec 32 := 0#32
  let c0_i32_1 : BitVec 32 := 0#32
  ![c10_i32.toNat, c0_i32.toNat, c0_i32_0.toNat]

def cc0_transform_6 (i : grid0.Coords) : Fin 3 → Nat :=
  let arg0 : BitVec 32 := BitVec.ofNat 32 (i 0).val
  let c7_i32 : BitVec 32 := 7#32
  let v0 : BitVec 32 := Scalar.minsi arg0 c7_i32
  let c1_i32 : BitVec 32 := 1#32
  let c0_i32 : BitVec 32 := 0#32
  let c0_i32_0 : BitVec 32 := 0#32
  ![c1_i32.toNat, v0.toNat, c0_i32.toNat]

def cc0_transform_7 (i : grid0.Coords) : Fin 3 → Nat :=
  let arg0 : BitVec 32 := BitVec.ofNat 32 (i 0).val
  let c7_i32 : BitVec 32 := 7#32
  let v0 : BitVec 32 := Scalar.minsi arg0 c7_i32
  let c1_i32 : BitVec 32 := 1#32
  let c0_i32 : BitVec 32 := 0#32
  let c0_i32_0 : BitVec 32 := 0#32
  ![c1_i32.toNat, v0.toNat, c0_i32.toNat]

def cc0_transform_8 (i : grid0.Coords) : Fin 3 → Nat :=
  let arg0 : BitVec 32 := BitVec.ofNat 32 (i 0).val
  let c11_i32 : BitVec 32 := 11#32
  let c0_i32 : BitVec 32 := 0#32
  let c0_i32_0 : BitVec 32 := 0#32
  let c0_i32_1 : BitVec 32 := 0#32
  ![c11_i32.toNat, c0_i32.toNat, c0_i32_0.toNat]

def cc0_transform_9 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x128x5632 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S16896x1024 : Shape := ⟨2, ![16896, 1024]⟩
abbrev S16896x512 : Shape := ⟨2, ![16896, 512]⟩
abbrev S2x6x1024 : Shape := ⟨3, ![2, 6, 1024]⟩
abbrev S2x1024x5632 : Shape := ⟨3, ![2, 1024, 5632]⟩
abbrev S2x2816x1024 : Shape := ⟨3, ![2, 2816, 1024]⟩
abbrev S2x1024x1024 : Shape := ⟨3, ![2, 1024, 1024]⟩
abbrev S1x6x1024 : Shape := ⟨3, ![1, 6, 1024]⟩
abbrev S6x1024 : Shape := ⟨2, ![6, 1024]⟩
abbrev S8x2112x1024 : Shape := ⟨3, ![8, 2112, 1024]⟩
abbrev S8x2064x1024 : Shape := ⟨3, ![8, 2064, 1024]⟩
abbrev S8x2112x512 : Shape := ⟨3, ![8, 2112, 512]⟩
abbrev S8x2064x512 : Shape := ⟨3, ![8, 2064, 512]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8x2064 : Shape := ⟨2, ![8, 2064]⟩
abbrev S8x2064x1 : Shape := ⟨3, ![8, 2064, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S8x2064x5632 : Shape := ⟨3, ![8, 2064, 5632]⟩
abbrev S8x2064x2816 : Shape := ⟨3, ![8, 2064, 2816]⟩
abbrev S8x2048x1024 : Shape := ⟨3, ![8, 2048, 1024]⟩
abbrev S16384x1024 : Shape := ⟨2, ![16384, 1024]⟩

abbrev nBuf : Space → Nat
  | .hbm => 100
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S16896x512, .bf16⟩
  | .hbm, ⟨2, _⟩ => ⟨S16896x512, .bf16⟩
  | .hbm, ⟨3, _⟩ => ⟨S2x6x1024, .f32⟩
  | .hbm, ⟨4, _⟩ => ⟨S2x1024x5632, .f32⟩
  | .hbm, ⟨5, _⟩ => ⟨S2x2816x1024, .f32⟩
  | .hbm, ⟨6, _⟩ => ⟨S2x1024x1024, .f32⟩
  | .hbm, ⟨7, _⟩ => ⟨S1x6x1024, .f32⟩
  | .hbm, ⟨8, _⟩ => ⟨S6x1024, .f32⟩
  | .hbm, ⟨9, _⟩ => ⟨S8x2112x1024, .f32⟩
  | .hbm, ⟨10, _⟩ => ⟨S8x2064x1024, .f32⟩
  | .hbm, ⟨11, _⟩ => ⟨S8x2112x512, .bf16⟩
  | .hbm, ⟨12, _⟩ => ⟨S8x2064x512, .bf16⟩
  | .hbm, ⟨13, _⟩ => ⟨S8x2064x512, .f32⟩
  | .hbm, ⟨14, _⟩ => ⟨S8x2112x512, .bf16⟩
  | .hbm, ⟨15, _⟩ => ⟨S8x2064x512, .bf16⟩
  | .hbm, ⟨16, _⟩ => ⟨S8x2064x512, .f32⟩
  | .hbm, ⟨17, _⟩ => ⟨S8x2064x1024, .f32⟩
  | .hbm, ⟨18, _⟩ => ⟨S1x1024x1024, .f32⟩
  | .hbm, ⟨19, _⟩ => ⟨S1024x1024, .f32⟩
  | .hbm, ⟨20, _⟩ => ⟨S8x2064x1024, .f32⟩
  | .hbm, ⟨21, _⟩ => ⟨S1x1024, .f32⟩
  | .hbm, ⟨22, _⟩ => ⟨S1024, .f32⟩
  | .hbm, ⟨23, _⟩ => ⟨S8x2064x1024, .f32⟩
  | .hbm, ⟨24, _⟩ => ⟨S_, .f32⟩
  | .hbm, ⟨25, _⟩ => ⟨S8x2064, .f32⟩
  | .hbm, ⟨26, _⟩ => ⟨S8x2064x1, .f32⟩
  | .hbm, ⟨27, _⟩ => ⟨S_, .f32⟩
  | .hbm, ⟨28, _⟩ => ⟨S8x2064x1, .f32⟩
  | .hbm, ⟨29, _⟩ => ⟨S8x2064x1, .f32⟩
  | .hbm, ⟨30, _⟩ => ⟨S_, .f32⟩
  | .hbm, ⟨31, _⟩ => ⟨S8x2064x1, .f32⟩
  | .hbm, ⟨32, _⟩ => ⟨S8x2064x1, .f32⟩
  | .hbm, ⟨33, _⟩ => ⟨S8x2064x1, .f32⟩
  | .hbm, ⟨34, _⟩ => ⟨S8x2064x1024, .f32⟩
  | .hbm, ⟨35, _⟩ => ⟨S8x2064x1024, .f32⟩
  | .hbm, ⟨36, _⟩ => ⟨S1x1x1024, .f32⟩
  | .hbm, ⟨37, _⟩ => ⟨S8x2064x1024, .f32⟩
  | .hbm, ⟨38, _⟩ => ⟨S8x2064x1024, .f32⟩
  | .hbm, ⟨39, _⟩ => ⟨S8x2064x1024, .f32⟩
  | .hbm, ⟨40, _⟩ => ⟨S1x1024, .f32⟩
  | .hbm, ⟨41, _⟩ => ⟨S1024, .f32⟩
  | .hbm, ⟨42, _⟩ => ⟨S8x2064x1024, .f32⟩
  | .hbm, ⟨43, _⟩ => ⟨S_, .f32⟩
  | .hbm, ⟨44, _⟩ => ⟨S8x2064, .f32⟩
  | .hbm, ⟨45, _⟩ => ⟨S8x2064x1, .f32⟩
  | .hbm, ⟨46, _⟩ => ⟨S_, .f32⟩
  | .hbm, ⟨47, _⟩ => ⟨S8x2064x1, .f32⟩
  | .hbm, ⟨48, _⟩ => ⟨S8x2064x1, .f32⟩
  | .hbm, ⟨49, _⟩ => ⟨S_, .f32⟩
  | .hbm, ⟨50, _⟩ => ⟨S8x2064x1, .f32⟩
  | .hbm, ⟨51, _⟩ => ⟨S8x2064x1, .f32⟩
  | .hbm, ⟨52, _⟩ => ⟨S8x2064x1, .f32⟩
  | .hbm, ⟨53, _⟩ => ⟨S8x2064x1024, .f32⟩
  | .hbm, ⟨54, _⟩ => ⟨S8x2064x1024, .f32⟩
  | .hbm, ⟨55, _⟩ => ⟨S1x1x1024, .f32⟩
  | .hbm, ⟨56, _⟩ => ⟨S8x2064x1024, .f32⟩
  | .hbm, ⟨57, _⟩ => ⟨S8x2064x1024, .f32⟩
  | .hbm, ⟨58, _⟩ => ⟨S1x1024x5632, .f32⟩
  | .hbm, ⟨59, _⟩ => ⟨S1024x5632, .f32⟩
  | .hbm, ⟨60, _⟩ => ⟨S1x2816x1024, .f32⟩
  | .hbm, ⟨61, _⟩ => ⟨S2816x1024, .f32⟩
  | .hbm, ⟨62, _⟩ => ⟨S8x2064x5632, .f32⟩
  | .hbm, ⟨63, _⟩ => ⟨S8x2064x2816, .f32⟩
  | .hbm, ⟨64, _⟩ => ⟨S8x2064x2816, .f32⟩
  | .hbm, ⟨65, _⟩ => ⟨S8x2064x2816, .f32⟩
  | .hbm, ⟨66, _⟩ => ⟨S8x2064x2816, .f32⟩
  | .hbm, ⟨67, _⟩ => ⟨S_, .f32⟩
  | .hbm, ⟨68, _⟩ => ⟨S8x2064x2816, .f32⟩
  | .hbm, ⟨69, _⟩ => ⟨S8x2064x2816, .f32⟩
  | .hbm, ⟨70, _⟩ => ⟨S_, .f32⟩
  | .hbm, ⟨71, _⟩ => ⟨S8x2064x2816, .f32⟩
  | .hbm, ⟨72, _⟩ => ⟨S8x2064x2816, .f32⟩
  | .hbm, ⟨73, _⟩ => ⟨S8x2064x2816, .f32⟩
  | .hbm, ⟨74, _⟩ => ⟨S8x2064x2816, .f32⟩
  | .hbm, ⟨75, _⟩ => ⟨S8x2064x1024, .f32⟩
  | .hbm, ⟨76, _⟩ => ⟨S1x1024, .f32⟩
  | .hbm, ⟨77, _⟩ => ⟨S1024, .f32⟩
  | .hbm, ⟨78, _⟩ => ⟨S8x2064x1024, .f32⟩
  | .hbm, ⟨79, _⟩ => ⟨S_, .f32⟩
  | .hbm, ⟨80, _⟩ => ⟨S8x2064, .f32⟩
  | .hbm, ⟨81, _⟩ => ⟨S8x2064x1, .f32⟩
  | .hbm, ⟨82, _⟩ => ⟨S_, .f32⟩
  | .hbm, ⟨83, _⟩ => ⟨S8x2064x1, .f32⟩
  | .hbm, ⟨84, _⟩ => ⟨S8x2064x1, .f32⟩
  | .hbm, ⟨85, _⟩ => ⟨S_, .f32⟩
  | .hbm, ⟨86, _⟩ => ⟨S8x2064x1, .f32⟩
  | .hbm, ⟨87, _⟩ => ⟨S8x2064x1, .f32⟩
  | .hbm, ⟨88, _⟩ => ⟨S8x2064x1, .f32⟩
  | .hbm, ⟨89, _⟩ => ⟨S8x2064x1024, .f32⟩
  | .hbm, ⟨90, _⟩ => ⟨S8x2064x1024, .f32⟩
  | .hbm, ⟨91, _⟩ => ⟨S1x1x1024, .f32⟩
  | .hbm, ⟨92, _⟩ => ⟨S8x2064x1024, .f32⟩
  | .hbm, ⟨93, _⟩ => ⟨S8x2064x1024, .f32⟩
  | .hbm, ⟨94, _⟩ => ⟨S_, .f32⟩
  | .hbm, ⟨95, _⟩ => ⟨S8x2064x1024, .f32⟩
  | .hbm, ⟨96, _⟩ => ⟨S8x2064x1024, .f32⟩
  | .hbm, ⟨97, _⟩ => ⟨S8x2064x1024, .f32⟩
  | .hbm, ⟨98, _⟩ => ⟨S8x2048x1024, .f32⟩
  | .hbm, ⟨99, _⟩ => ⟨S16384x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_5 : Ref sig .tc := ⟨.hbm, 79, rfl⟩
abbrev main_v58 : Ref sig .tc := ⟨.hbm, 80, rfl⟩
abbrev main_v59 : Ref sig .tc := ⟨.hbm, 81, rfl⟩
abbrev main_cst_6 : Ref sig .tc := ⟨.hbm, 82, rfl⟩
abbrev main_v60 : Ref sig .tc := ⟨.hbm, 83, rfl⟩
abbrev main_v61 : Ref sig .tc := ⟨.hbm, 84, rfl⟩
abbrev main_cst_7 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_8 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩

abbrev nD : Nat := 1
abbrev τ : Topo := Topo.v7x

variable {F : FTy → Type} [FloatOps F]
-- ==== KernelMix0.lean ====
abbrev S16896x1024 : Shape := ⟨2, ![16896, 1024]⟩
abbrev S16896x512 : Shape := ⟨2, ![16896, 512]⟩
abbrev S2x6x1024 : Shape := ⟨3, ![2, 6, 1024]⟩
abbrev S2x1024x5632 : Shape := ⟨3, ![2, 1024, 5632]⟩
abbrev S2x2816x1024 : Shape := ⟨3, ![2, 2816, 1024]⟩
abbrev S2x1024x1024 : Shape := ⟨3, ![2, 1024, 1024]⟩
abbrev S12x1x1024 : Shape := ⟨3, ![12, 1, 1024]⟩
abbrev S16512x1024 : Shape := ⟨2, ![16512, 1024]⟩
abbrev S688x1024 : Shape := ⟨2, ![688, 1024]⟩
abbrev S688x512 : Shape := ⟨2, ![688, 512]⟩
abbrev S1x1024x1024 : Shape := ⟨3, ![1, 1024, 1024]⟩
abbrev S1x1x1024 : Shape := ⟨3, ![1, 1, 1024]⟩
abbrev S1x128x5632 : Shape := ⟨3, ![1, 128, 5632]⟩
abbrev S1x352x1024 : Shape := ⟨3, ![1, 352, 1024]⟩
abbrev S1024x5632 : Shape := ⟨2, ![1024, 5632]⟩
abbrev S2816x1024 : Shape := ⟨2, ![2816, 1024]⟩
abbrev S128x5632 : Shape := ⟨2, ![128, 5632]⟩
abbrev S352x1024 : Shape := ⟨2, ![352, 1024]⟩
abbrev S1x512x1024 : Shape := ⟨3, ![1, 512, 1024]⟩
abbrev S512x1024 : Shape := ⟨2, ![512, 1024]⟩
abbrev S1x1024 : Shape := ⟨2, ![1, 1024]⟩
abbrev S688 : Shape := ⟨1, ![688]⟩
abbrev S688x1 : Shape := ⟨2, ![688, 1]⟩
abbrev S688x5632 : Shape := ⟨2, ![688, 5632]⟩
abbrev S688x2816 : Shape := ⟨2, ![688, 2816]⟩

abbrev nBuf : Space → Nat
  | .hbm => 10
  | .vmem => 18
  | .smem => 0
  | _ => 0

abbrev bufTy : (tb : Table) → Fin (tcTables nBuf tb) → BufTy
  | .hbm, ⟨0, _⟩ => ⟨S16896x1024, .f32⟩
  | .hbm, ⟨1, _⟩ => ⟨S16896x512, .bf16⟩
  | .hbm, ⟨2, _⟩ => ⟨S16896x512, .bf16⟩
  | .hbm, ⟨3, _⟩ => ⟨S2x6x1024, .f32⟩
  | .hbm, ⟨4, _⟩ => ⟨S2x1024x5632, .f32⟩
  | .hbm, ⟨5, _⟩ => ⟨S2x2816x1024, .f32⟩
  | .hbm, ⟨6, _⟩ => ⟨S2x1024x1024, .f32⟩
  | .hbm, ⟨7, _⟩ => ⟨S2x1024x1024, .bf16⟩
  | .hbm, ⟨8, _⟩ => ⟨S12x1x1024, .f32⟩
  | .hbm, ⟨9, _⟩ => ⟨S16512x1024, .f32⟩
  | .local _ .vmem, ⟨0, _⟩ => ⟨S688x1024, .f32⟩
  | .local _ .vmem, ⟨1, _⟩ => ⟨S688x1024, .f32⟩
  | .local _ .vmem, ⟨2, _⟩ => ⟨S688x512, .bf16⟩
  | .local _ .vmem, ⟨3, _⟩ => ⟨S688x512, .bf16⟩
  | .local _ .vmem, ⟨4, _⟩ => ⟨S688x512, .bf16⟩
  | .local _ .vmem, ⟨5, _⟩ => ⟨S688x512, .bf16⟩
  | .local _ .vmem, ⟨6, _⟩ => ⟨S1x1024x1024, .bf16⟩
  | .local _ .vmem, ⟨7, _⟩ => ⟨S1x1x1024, .f32⟩
  | .local _ .vmem, ⟨8, _⟩ => ⟨S1x1x1024, .f32⟩
  | .local _ .vmem, ⟨9, _⟩ => ⟨S1x128x5632, .f32⟩
  | .local _ .vmem, ⟨10, _⟩ => ⟨S1x128x5632, .f32⟩
  | .local _ .vmem, ⟨11, _⟩ => ⟨S1x352x1024, .f32⟩
  | .local _ .vmem, ⟨12, _⟩ => ⟨S1x352x1024, .f32⟩
  | .local _ .vmem, ⟨13, _⟩ => ⟨S1x1x1024, .f32⟩
  | .local _ .vmem, ⟨14, _⟩ => ⟨S688x1024, .f32⟩
  | .local _ .vmem, ⟨15, _⟩ => ⟨S688x1024, .f32⟩
  | .local _ .vmem, ⟨16, _⟩ => ⟨S1024x5632, .bf16⟩
  | .local _ .vmem, ⟨17, _⟩ => ⟨S2816x1024, .bf16⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c3_i32 : BitVec 32 := 3#32
  let c0_i32_2 : BitVec 32 := 0#32
  let v8 : BitVec 1 := Scalar.cmpi .sgt c3_i32 c0_i32_2
  let v9 : BitVec 32 := Scalar.extui v8
  let c0_i32_3 : BitVec 32 := 0#32
  let v10 : BitVec 1 := Scalar.cmpi .slt c3_i32 c0_i32_3
  let v11 : BitVec 32 := Scalar.extui v10
  let v12 : BitVec 32 := Scalar.subi v9 v11
  let v13 : BitVec 1 := Scalar.cmpi .ne v7 v12
  let v14 : BitVec 32 := Scalar.remsi v1 c3_i32
  let c0_i32_4 : BitVec 32 := 0#32
  let v15 : BitVec 1 := Scalar.cmpi .ne v14 c0_i32_4
  let v16 : BitVec 1 := Scalar.andi v13 v15
  let v2 : BitVec 32 := Scalar.divsi v1 c3_i32
  let c1_i32 : BitVec 32 := 1#32
  let v17 : BitVec 32 := Scalar.subi v2 c1_i32
  let v18 : BitVec 32 := Scalar.select v16 v17 v2
  let c2112_i32 : BitVec 32 := 2112#32
  let v19 : BitVec 32 := Scalar.muli v18 c2112_i32
  let c0_i32_5 : BitVec 32 := 0#32
  let v20 : BitVec 32 := Scalar.addi v19 c0_i32_5
  let c3_i32_6 : BitVec 32 := 3#32
  let c0_i32_7 : BitVec 32 := 0#32
  let v21 : BitVec 1 := Scalar.cmpi .eq c3_i32_6 c0_i32_7
  let c1_i32_8 : BitVec 32 := 1#32
  let v22 : BitVec 32 := Scalar.select v21 c1_i32_8 c3_i32_6
  let v23 : BitVec 32 := Scalar.remsi v1 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c688_i32 : BitVec 32 := 688#32
  let v31 : BitVec 32 := Scalar.muli v30 c688_i32
  let v32 : BitVec 32 := Scalar.addi v20 v31
  v32
def k0_mult2 (i : grid0.Coords) : BitVec 32 :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c3_i32 : BitVec 32 := 3#32
  let c0_i32_2 : BitVec 32 := 0#32
  let v8 : BitVec 1 := Scalar.cmpi .sgt c3_i32 c0_i32_2
  let v9 : BitVec 32 := Scalar.extui v8
  let c0_i32_3 : BitVec 32 := 0#32
  let v10 : BitVec 1 := Scalar.cmpi .slt c3_i32 c0_i32_3
  let v11 : BitVec 32 := Scalar.extui v10
  let v12 : BitVec 32 := Scalar.subi v9 v11
  let v13 : BitVec 1 := Scalar.cmpi .ne v7 v12
  let v14 : BitVec 32 := Scalar.remsi v1 c3_i32
  let c0_i32_4 : BitVec 32 := 0#32
  let v15 : BitVec 1 := Scalar.cmpi .ne v14 c0_i32_4
  let v16 : BitVec 1 := Scalar.andi v13 v15
  let v2 : BitVec 32 := Scalar.divsi v1 c3_i32
  let c1_i32 : BitVec 32 := 1#32
  let v17 : BitVec 32 := Scalar.subi v2 c1_i32
  let v18 : BitVec 32 := Scalar.select v16 v17 v2
  let c2112_i32 : BitVec 32 := 2112#32
  let v19 : BitVec 32 := Scalar.muli v18 c2112_i32
  let c0_i32_5 : BitVec 32 := 0#32
  let v20 : BitVec 32 := Scalar.addi v19 c0_i32_5
  let c3_i32_6 : BitVec 32 := 3#32
  let c0_i32_7 : BitVec 32 := 0#32
  let v21 : BitVec 1 := Scalar.cmpi .eq c3_i32_6 c0_i32_7
  let c1_i32_8 : BitVec 32 := 1#32
  let v22 : BitVec 32 := Scalar.select v21 c1_i32_8 c3_i32_6
  let v23 : BitVec 32 := Scalar.remsi v1 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c688_i32 : BitVec 32 := 688#32
  let v31 : BitVec 32 := Scalar.muli v30 c688_i32
  let v32 : BitVec 32 := Scalar.addi v20 v31
  v32
def k0_mult3 (i : grid0.Coords) : BitVec 32 :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c3_i32 : BitVec 32 := 3#32
  let c0_i32_2 : BitVec 32 := 0#32
  let v8 : BitVec 1 := Scalar.cmpi .sgt c3_i32 c0_i32_2
  let v9 : BitVec 32 := Scalar.extui v8
  let c0_i32_3 : BitVec 32 := 0#32
  let v10 : BitVec 1 := Scalar.cmpi .slt c3_i32 c0_i32_3
  let v11 : BitVec 32 := Scalar.extui v10
  let v12 : BitVec 32 := Scalar.subi v9 v11
  let v13 : BitVec 1 := Scalar.cmpi .ne v7 v12
  let v14 : BitVec 32 := Scalar.remsi v1 c3_i32
  let c0_i32_4 : BitVec 32 := 0#32
  let v15 : BitVec 1 := Scalar.cmpi .ne v14 c0_i32_4
  let v16 : BitVec 1 := Scalar.andi v13 v15
  let v2 : BitVec 32 := Scalar.divsi v1 c3_i32
  let c1_i32 : BitVec 32 := 1#32
  let v17 : BitVec 32 := Scalar.subi v2 c1_i32
  let v18 : BitVec 32 := Scalar.select v16 v17 v2
  let c2112_i32 : BitVec 32 := 2112#32
  let v19 : BitVec 32 := Scalar.muli v18 c2112_i32
  let c0_i32_5 : BitVec 32 := 0#32
  let v20 : BitVec 32 := Scalar.addi v19 c0_i32_5
  let c3_i32_6 : BitVec 32 := 3#32
  let c0_i32_7 : BitVec 32 := 0#32
  let v21 : BitVec 1 := Scalar.cmpi .eq c3_i32_6 c0_i32_7
  let c1_i32_8 : BitVec 32 := 1#32
  let v22 : BitVec 32 := Scalar.select v21 c1_i32_8 c3_i32_6
  let v23 : BitVec 32 := Scalar.remsi v1 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c688_i32 : BitVec 32 := 688#32
  let v31 : BitVec 32 := Scalar.muli v30 c688_i32
  let v32 : BitVec 32 := Scalar.addi v20 v31
  v32
def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_mult4 (i : grid0.Coords) : BitVec 32 :=
  let arg0 : BitVec 32 := BitVec.ofNat 32 (i 0).val
  let c128_i32 : BitVec 32 := 128#32
  let v9 : BitVec 32 := Scalar.muli arg0 c128_i32
  v9
def k0_off1 (i : grid0.Coords) : Fin 2 → Nat :=
  let arg0 : BitVec 32 := BitVec.ofNat 32 (i 0).val
  let c128_i32 : BitVec 32 := 128#32
  let v9 : BitVec 32 := Scalar.muli arg0 c128_i32
  let v10 : BitVec 32 := v9
  let v11 : Index := Scalar.indexCast v10
  let c0_4 : Index := 0#32
  ![v11.toNat, 0]
def k0_mult5 (i : grid0.Coords) : BitVec 32 :=
  let arg0 : BitVec 32 := BitVec.ofNat 32 (i 0).val
  let c352_i32 : BitVec 32 := 352#32
  let v18 : BitVec 32 := Scalar.muli arg0 c352_i32
  v18
def k0_off2 (i : grid0.Coords) : Fin 2 → Nat :=
  let arg0 : BitVec 32 := BitVec.ofNat 32 (i 0).val
  let c352_i32 : BitVec 32 := 352#32
  let v18 : BitVec 32 := Scalar.muli arg0 c352_i32
  let v19 : BitVec 32 := v18
  let v20 : Index := Scalar.indexCast v19
  let c0_8 : Index := 0#32
  ![v20.toNat, 0]
def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c3_i32 : BitVec 32 := 3#32
  let v2 : BitVec 32 := Scalar.divsi v1 c3_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c3_i32 c0_i32_2
  let v9 : BitVec 32 := Scalar.extui v8
  let c0_i32_3 : BitVec 32 := 0#32
  let v10 : BitVec 1 := Scalar.cmpi .slt c3_i32 c0_i32_3
  let v11 : BitVec 32 := Scalar.extui v10
  let v12 : BitVec 32 := Scalar.subi v9 v11
  let v13 : BitVec 1 := Scalar.cmpi .ne v7 v12
  let v14 : BitVec 32 := Scalar.remsi v1 c3_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2112_i32 : BitVec 32 := 2112#32
  let v19 : BitVec 32 := Scalar.muli v18 c2112_i32
  let c0_i32_5 : BitVec 32 := 0#32
  let v20 : BitVec 32 := Scalar.addi v19 c0_i32_5
  let c3_i32_6 : BitVec 32 := 3#32
  let c0_i32_7 : BitVec 32 := 0#32
  let v21 : BitVec 1 := Scalar.cmpi .eq c3_i32_6 c0_i32_7
  let c1_i32_8 : BitVec 32 := 1#32
  let v22 : BitVec 32 := Scalar.select v21 c1_i32_8 c3_i32_6
  let v23 : BitVec 32 := Scalar.remsi v1 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c688_i32 : BitVec 32 := 688#32
  let v31 : BitVec 32 := Scalar.muli v30 c688_i32
  let v32 : BitVec 32 := Scalar.addi v20 v31
  let v33 : BitVec 32 := v32
  let c0_i32_12 : BitVec 32 := 0#32
  let c0_i32_13 : BitVec 32 := 0#32
  ![v33.toNat, c0_i32_12.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c3_i32 : BitVec 32 := 3#32
  let v2 : BitVec 32 := Scalar.divsi v1 c3_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c3_i32 c0_i32_2
  let v9 : BitVec 32 := Scalar.extui v8
  let c0_i32_3 : BitVec 32 := 0#32
  let v10 : BitVec 1 := Scalar.cmpi .slt c3_i32 c0_i32_3
  let v11 : BitVec 32 := Scalar.extui v10
  let v12 : BitVec 32 := Scalar.subi v9 v11
  let v13 : BitVec 1 := Scalar.cmpi .ne v7 v12
  let v14 : BitVec 32 := Scalar.remsi v1 c3_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2112_i32 : BitVec 32 := 2112#32
  let v19 : BitVec 32 := Scalar.muli v18 c2112_i32
  let c0_i32_5 : BitVec 32 := 0#32
  let v20 : BitVec 32 := Scalar.addi v19 c0_i32_5
  let c3_i32_6 : BitVec 32 := 3#32
  let c0_i32_7 : BitVec 32 := 0#32
  let v21 : BitVec 1 := Scalar.cmpi .eq c3_i32_6 c0_i32_7
  let c1_i32_8 : BitVec 32 := 1#32
  let v22 : BitVec 32 := Scalar.select v21 c1_i32_8 c3_i32_6
  let v23 : BitVec 32 := Scalar.remsi v1 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c688_i32 : BitVec 32 := 688#32
  let v31 : BitVec 32 := Scalar.muli v30 c688_i32
  let v32 : BitVec 32 := Scalar.addi v20 v31
  let v33 : BitVec 32 := v32
  let c0_i32_12 : BitVec 32 := 0#32
  let c0_i32_13 : BitVec 32 := 0#32
  ![v33.toNat, c0_i32_12.toNat]

def cc0_transform_2 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c3_i32 : BitVec 32 := 3#32
  let v2 : BitVec 32 := Scalar.divsi v1 c3_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c3_i32 c0_i32_2
  let v9 : BitVec 32 := Scalar.extui v8
  let c0_i32_3 : BitVec 32 := 0#32
  let v10 : BitVec 1 := Scalar.cmpi .slt c3_i32 c0_i32_3
  let v11 : BitVec 32 := Scalar.extui v10
  let v12 : BitVec 32 := Scalar.subi v9 v11
  let v13 : BitVec 1 := Scalar.cmpi .ne v7 v12
  let v14 : BitVec 32 := Scalar.remsi v1 c3_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2112_i32 : BitVec 32 := 2112#32
  let v19 : BitVec 32 := Scalar.muli v18 c2112_i32
  let c0_i32_5 : BitVec 32 := 0#32
  let v20 : BitVec 32 := Scalar.addi v19 c0_i32_5
  let c3_i32_6 : BitVec 32 := 3#32
  let c0_i32_7 : BitVec 32 := 0#32
  let v21 : BitVec 1 := Scalar.cmpi .eq c3_i32_6 c0_i32_7
  let c1_i32_8 : BitVec 32 := 1#32
  let v22 : BitVec 32 := Scalar.select v21 c1_i32_8 c3_i32_6
  let v23 : BitVec 32 := Scalar.remsi v1 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c688_i32 : BitVec 32 := 688#32
  let v31 : BitVec 32 := Scalar.muli v30 c688_i32
  let v32 : BitVec 32 := Scalar.addi v20 v31
  let v33 : BitVec 32 := v32
  let c0_i32_12 : BitVec 32 := 0#32
  let c0_i32_13 : BitVec 32 := 0#32
  ![v33.toNat, c0_i32_12.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_6 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![c0_i32.toNat, v0.toNat, c0_i32_0.toNat]

def cc0_transform_7 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![c0_i32.toNat, v0.toNat, c0_i32_0.toNat]

def cc0_transform_8 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc0_transform_9 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S688x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x128x5632 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S688x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceMix0Ideal.lean ====
abbrev S16896x1024 : Shape := ⟨2, ![16896, 1024]⟩
abbrev S16896x512 : Shape := ⟨2, ![16896, 512]⟩
abbrev S2x6x1024 : Shape := ⟨3, ![2, 6, 1024]⟩
abbrev S2x1024x5632 : Shape := ⟨3, ![2, 1024, 5632]⟩
abbrev S2x2816x1024 : Shape := ⟨3, ![2, 2816, 1024]⟩
abbrev S2x1024x1024 : Shape := ⟨3, ![2, 1024, 1024]⟩
abbrev S1x6x1024 : Shape := ⟨3, ![1, 6, 1024]⟩
abbrev S6x1024 : Shape := ⟨2, ![6, 1024]⟩
abbrev S8x2112x1024 : Shape := ⟨3, ![8, 2112, 1024]⟩
abbrev S8x2064x1024 : Shape := ⟨3, ![8, 2064, 1024]⟩
abbrev S8x2112x512 : Shape := ⟨3, ![8, 2112, 512]⟩
abbrev S8x2064x512 : Shape := ⟨3, ![8, 2064, 512]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8x2064 : Shape := ⟨2, ![8, 2064]⟩
abbrev S8x2064x1 : Shape := ⟨3, ![8, 2064, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S8x2064x5632 : Shape := ⟨3, ![8, 2064, 5632]⟩
abbrev S8x2064x2816 : Shape := ⟨3, ![8, 2064, 2816]⟩
abbrev S16512x1024 : Shape := ⟨2, ![16512, 1024]⟩

abbrev nBuf : Space → Nat
  | .hbm => 99
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S16896x512, .bf16⟩
  | .hbm, ⟨2, _⟩ => ⟨S16896x512, .bf16⟩
  | .hbm, ⟨3, _⟩ => ⟨S2x6x1024, .f32⟩
  | .hbm, ⟨4, _⟩ => ⟨S2x1024x5632, .f32⟩
  | .hbm, ⟨5, _⟩ => ⟨S2x2816x1024, .f32⟩
  | .hbm, ⟨6, _⟩ => ⟨S2x1024x1024, .f32⟩
  | .hbm, ⟨7, _⟩ => ⟨S1x6x1024, .f32⟩
  | .hbm, ⟨8, _⟩ => ⟨S6x1024, .f32⟩
  | .hbm, ⟨9, _⟩ => ⟨S8x2112x1024, .f32⟩
  | .hbm, ⟨10, _⟩ => ⟨S8x2064x1024, .f32⟩
  | .hbm, ⟨11, _⟩ => ⟨S8x2112x512, .bf16⟩
  | .hbm, ⟨12, _⟩ => ⟨S8x2064x512, .bf16⟩
  | .hbm, ⟨13, _⟩ => ⟨S8x2064x512, .f32⟩
  | .hbm, ⟨14, _⟩ => ⟨S8x2112x512, .bf16⟩
  | .hbm, ⟨15, _⟩ => ⟨S8x2064x512, .bf16⟩
  | .hbm, ⟨16, _⟩ => ⟨S8x2064x512, .f32⟩
  | .hbm, ⟨17, _⟩ => ⟨S8x2064x1024, .f32⟩
  | .hbm, ⟨18, _⟩ => ⟨S1x1024x1024, .f32⟩
  | .hbm, ⟨19, _⟩ => ⟨S1024x1024, .f32⟩
  | .hbm, ⟨20, _⟩ => ⟨S8x2064x1024, .f32⟩
  | .hbm, ⟨21, _⟩ => ⟨S1x1024, .f32⟩
  | .hbm, ⟨22, _⟩ => ⟨S1024, .f32⟩
  | .hbm, ⟨23, _⟩ => ⟨S8x2064x1024, .f32⟩
  | .hbm, ⟨24, _⟩ => ⟨S_, .f32⟩
  | .hbm, ⟨25, _⟩ => ⟨S8x2064, .f32⟩
  | .hbm, ⟨26, _⟩ => ⟨S8x2064x1, .f32⟩
  | .hbm, ⟨27, _⟩ => ⟨S_, .f32⟩
  | .hbm, ⟨28, _⟩ => ⟨S8x2064x1, .f32⟩
  | .hbm, ⟨29, _⟩ => ⟨S8x2064x1, .f32⟩
  | .hbm, ⟨30, _⟩ => ⟨S_, .f32⟩
  | .hbm, ⟨31, _⟩ => ⟨S8x2064x1, .f32⟩
  | .hbm, ⟨32, _⟩ => ⟨S8x2064x1, .f32⟩
  | .hbm, ⟨33, _⟩ => ⟨S8x2064x1, .f32⟩
  | .hbm, ⟨34, _⟩ => ⟨S8x2064x1024, .f32⟩
  | .hbm, ⟨35, _⟩ => ⟨S8x2064x1024, .f32⟩
  | .hbm, ⟨36, _⟩ => ⟨S1x1x1024, .f32⟩
  | .hbm, ⟨37, _⟩ => ⟨S8x2064x1024, .f32⟩
  | .hbm, ⟨38, _⟩ => ⟨S8x2064x1024, .f32⟩
  | .hbm, ⟨39, _⟩ => ⟨S8x2064x1024, .f32⟩
  | .hbm, ⟨40, _⟩ => ⟨S1x1024, .f32⟩
  | .hbm, ⟨41, _⟩ => ⟨S1024, .f32⟩
  | .hbm, ⟨42, _⟩ => ⟨S8x2064x1024, .f32⟩
  | .hbm, ⟨43, _⟩ => ⟨S_, .f32⟩
  | .hbm, ⟨44, _⟩ => ⟨S8x2064, .f32⟩
  | .hbm, ⟨45, _⟩ => ⟨S8x2064x1, .f32⟩
  | .hbm, ⟨46, _⟩ => ⟨S_, .f32⟩
  | .hbm, ⟨47, _⟩ => ⟨S8x2064x1, .f32⟩
  | .hbm, ⟨48, _⟩ => ⟨S8x2064x1, .f32⟩
  | .hbm, ⟨49, _⟩ => ⟨S_, .f32⟩
  | .hbm, ⟨50, _⟩ => ⟨S8x2064x1, .f32⟩
  | .hbm, ⟨51, _⟩ => ⟨S8x2064x1, .f32⟩
  | .hbm, ⟨52, _⟩ => ⟨S8x2064x1, .f32⟩
  | .hbm, ⟨53, _⟩ => ⟨S8x2064x1024, .f32⟩
  | .hbm, ⟨54, _⟩ => ⟨S8x2064x1024, .f32⟩
  | .hbm, ⟨55, _⟩ => ⟨S1x1x1024, .f32⟩
  | .hbm, ⟨56, _⟩ => ⟨S8x2064x1024, .f32⟩
  | .hbm, ⟨57, _⟩ => ⟨S8x2064x1024, .f32⟩
  | .hbm, ⟨58, _⟩ => ⟨S1x1024x5632, .f32⟩
  | .hbm, ⟨59, _⟩ => ⟨S1024x5632, .f32⟩
  | .hbm, ⟨60, _⟩ => ⟨S1x2816x1024, .f32⟩
  | .hbm, ⟨61, _⟩ => ⟨S2816x1024, .f32⟩
  | .hbm, ⟨62, _⟩ => ⟨S8x2064x5632, .f32⟩
  | .hbm, ⟨63, _⟩ => ⟨S8x2064x2816, .f32⟩
  | .hbm, ⟨64, _⟩ => ⟨S8x2064x2816, .f32⟩
  | .hbm, ⟨65, _⟩ => ⟨S8x2064x2816, .f32⟩
  | .hbm, ⟨66, _⟩ => ⟨S8x2064x2816, .f32⟩
  | .hbm, ⟨67, _⟩ => ⟨S_, .f32⟩
  | .hbm, ⟨68, _⟩ => ⟨S8x2064x2816, .f32⟩
  | .hbm, ⟨69, _⟩ => ⟨S8x2064x2816, .f32⟩
  | .hbm, ⟨70, _⟩ => ⟨S_, .f32⟩
  | .hbm, ⟨71, _⟩ => ⟨S8x2064x2816, .f32⟩
  | .hbm, ⟨72, _⟩ => ⟨S8x2064x2816, .f32⟩
  | .hbm, ⟨73, _⟩ => ⟨S8x2064x2816, .f32⟩
  | .hbm, ⟨74, _⟩ => ⟨S8x2064x2816, .f32⟩
  | .hbm, ⟨75, _⟩ => ⟨S8x2064x1024, .f32⟩
  | .hbm, ⟨76, _⟩ => ⟨S1x1024, .f32⟩
  | .hbm, ⟨77, _⟩ => ⟨S1024, .f32⟩
  | .hbm, ⟨78, _⟩ => ⟨S8x2064x1024, .f32⟩
  | .hbm, ⟨79, _⟩ => ⟨S_, .f32⟩
  | .hbm, ⟨80, _⟩ => ⟨S8x2064, .f32⟩
  | .hbm, ⟨81, _⟩ => ⟨S8x2064x1, .f32⟩
  | .hbm, ⟨82, _⟩ => ⟨S_, .f32⟩
  | .hbm, ⟨83, _⟩ => ⟨S8x2064x1, .f32⟩
  | .hbm, ⟨84, _⟩ => ⟨S8x2064x1, .f32⟩
  | .hbm, ⟨85, _⟩ => ⟨S_, .f32⟩
  | .hbm, ⟨86, _⟩ => ⟨S8x2064x1, .f32⟩
  | .hbm, ⟨87, _⟩ => ⟨S8x2064x1, .f32⟩
  | .hbm, ⟨88, _⟩ => ⟨S8x2064x1, .f32⟩
  | .hbm, ⟨89, _⟩ => ⟨S8x2064x1024, .f32⟩
  | .hbm, ⟨90, _⟩ => ⟨S8x2064x1024, .f32⟩
  | .hbm, ⟨91, _⟩ => ⟨S1x1x1024, .f32⟩
  | .hbm, ⟨92, _⟩ => ⟨S8x2064x1024, .f32⟩
  | .hbm, ⟨93, _⟩ => ⟨S8x2064x1024, .f32⟩
  | .hbm, ⟨94, _⟩ => ⟨S_, .f32⟩
  | .hbm, ⟨95, _⟩ => ⟨S8x2064x1024, .f32⟩
  | .hbm, ⟨96, _⟩ => ⟨S8x2064x1024, .f32⟩
  | .hbm, ⟨97, _⟩ => ⟨S8x2064x1024, .f32⟩
  | .hbm, ⟨98, _⟩ => ⟨S16512x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_5 : Ref sig .tc := ⟨.hbm, 79, rfl⟩
abbrev main_v58 : Ref sig .tc := ⟨.hbm, 80, rfl⟩
abbrev main_v59 : Ref sig .tc := ⟨.hbm, 81, rfl⟩
abbrev main_cst_6 : Ref sig .tc := ⟨.hbm, 82, rfl⟩
abbrev main_v60 : Ref sig .tc := ⟨.hbm, 83, rfl⟩
abbrev main_v61 : Ref sig .tc := ⟨.hbm, 84, rfl⟩
abbrev main_cst_7 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_8 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩

abbrev nD : Nat := 1
abbrev τ : Topo := Topo.v7x

variable {F : FTy → Type} [FloatOps F]
-- ==== KernelFfn1.lean ====
abbrev S16896x1024 : Shape := ⟨2, ![16896, 1024]⟩
abbrev S2x6x1024 : Shape := ⟨3, ![2, 6, 1024]⟩
abbrev S2x1024x5632 : Shape := ⟨3, ![2, 1024, 5632]⟩
abbrev S2x2816x1024 : Shape := ⟨3, ![2, 2816, 1024]⟩
abbrev S12x1x1024 : Shape := ⟨3, ![12, 1, 1024]⟩
abbrev S16512x1024 : Shape := ⟨2, ![16512, 1024]⟩
abbrev S688x1024 : Shape := ⟨2, ![688, 1024]⟩
abbrev S1x1x1024 : Shape := ⟨3, ![1, 1, 1024]⟩
abbrev S1x128x5632 : Shape := ⟨3, ![1, 128, 5632]⟩
abbrev S1x352x1024 : Shape := ⟨3, ![1, 352, 1024]⟩
abbrev S1024x5632 : Shape := ⟨2, ![1024, 5632]⟩
abbrev S2816x1024 : Shape := ⟨2, ![2816, 1024]⟩
abbrev S128x5632 : Shape := ⟨2, ![128, 5632]⟩
abbrev S352x1024 : Shape := ⟨2, ![352, 1024]⟩
abbrev S1x1024 : Shape := ⟨2, ![1, 1024]⟩
abbrev S688 : Shape := ⟨1, ![688]⟩
abbrev S688x1 : Shape := ⟨2, ![688, 1]⟩
abbrev S688x5632 : Shape := ⟨2, ![688, 5632]⟩
abbrev S688x2816 : Shape := ⟨2, ![688, 2816]⟩

abbrev nBuf : Space → Nat
  | .hbm => 6
  | .vmem => 12
  | .smem => 0
  | _ => 0

abbrev bufTy : (tb : Table) → Fin (tcTables nBuf tb) → BufTy
  | .hbm, ⟨0, _⟩ => ⟨S16896x1024, .f32⟩
  | .hbm, ⟨1, _⟩ => ⟨S2x6x1024, .f32⟩
  | .hbm, ⟨2, _⟩ => ⟨S2x1024x5632, .f32⟩
  | .hbm, ⟨3, _⟩ => ⟨S2x2816x1024, .f32⟩
  | .hbm, ⟨4, _⟩ => ⟨S12x1x1024, .f32⟩
  | .hbm, ⟨5, _⟩ => ⟨S16512x1024, .f32⟩
  | .local _ .vmem, ⟨0, _⟩ => ⟨S688x1024, .f32⟩
  | .local _ .vmem, ⟨1, _⟩ => ⟨S688x1024, .f32⟩
  | .local _ .vmem, ⟨2, _⟩ => ⟨S1x1x1024, .f32⟩
  | .local _ .vmem, ⟨3, _⟩ => ⟨S1x128x5632, .f32⟩
  | .local _ .vmem, ⟨4, _⟩ => ⟨S1x128x5632, .f32⟩
  | .local _ .vmem, ⟨5, _⟩ => ⟨S1x352x1024, .f32⟩
  | .local _ .vmem, ⟨6, _⟩ => ⟨S1x352x1024, .f32⟩
  | .local _ .vmem, ⟨7, _⟩ => ⟨S1x1x1024, .f32⟩
  | .local _ .vmem, ⟨8, _⟩ => ⟨S688x1024, .f32⟩
  | .local _ .vmem, ⟨9, _⟩ => ⟨S688x1024, .f32⟩
  | .local _ .vmem, ⟨10, _⟩ => ⟨S1024x5632, .bf16⟩
  | .local _ .vmem, ⟨11, _⟩ => ⟨S2816x1024, .bf16⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c3_i32 : BitVec 32 := 3#32
  let c0_i32_2 : BitVec 32 := 0#32
  let v8 : BitVec 1 := Scalar.cmpi .sgt c3_i32 c0_i32_2
  let v9 : BitVec 32 := Scalar.extui v8
  let c0_i32_3 : BitVec 32 := 0#32
  let v10 : BitVec 1 := Scalar.cmpi .slt c3_i32 c0_i32_3
  let v11 : BitVec 32 := Scalar.extui v10
  let v12 : BitVec 32 := Scalar.subi v9 v11
  let v13 : BitVec 1 := Scalar.cmpi .ne v7 v12
  let v14 : BitVec 32 := Scalar.remsi v1 c3_i32
  let c0_i32_4 : BitVec 32 := 0#32
  let v15 : BitVec 1 := Scalar.cmpi .ne v14 c0_i32_4
  let v16 : BitVec 1 := Scalar.andi v13 v15
  let v2 : BitVec 32 := Scalar.divsi v1 c3_i32
  let c1_i32 : BitVec 32 := 1#32
  let v17 : BitVec 32 := Scalar.subi v2 c1_i32
  let v18 : BitVec 32 := Scalar.select v16 v17 v2
  let c2112_i32 : BitVec 32 := 2112#32
  let v19 : BitVec 32 := Scalar.muli v18 c2112_i32
  let c0_i32_5 : BitVec 32 := 0#32
  let v20 : BitVec 32 := Scalar.addi v19 c0_i32_5
  let c3_i32_6 : BitVec 32 := 3#32
  let c0_i32_7 : BitVec 32 := 0#32
  let v21 : BitVec 1 := Scalar.cmpi .eq c3_i32_6 c0_i32_7
  let c1_i32_8 : BitVec 32 := 1#32
  let v22 : BitVec 32 := Scalar.select v21 c1_i32_8 c3_i32_6
  let v23 : BitVec 32 := Scalar.remsi v1 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c688_i32 : BitVec 32 := 688#32
  let v31 : BitVec 32 := Scalar.muli v30 c688_i32
  let v32 : BitVec 32 := Scalar.addi v20 v31
  v32
def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_mult2 (i : grid0.Coords) : BitVec 32 :=
  let arg0 : BitVec 32 := BitVec.ofNat 32 (i 0).val
  let c128_i32 : BitVec 32 := 128#32
  let v9 : BitVec 32 := Scalar.muli arg0 c128_i32
  v9
def k0_off1 (i : grid0.Coords) : Fin 2 → Nat :=
  let arg0 : BitVec 32 := BitVec.ofNat 32 (i 0).val
  let c128_i32 : BitVec 32 := 128#32
  let v9 : BitVec 32 := Scalar.muli arg0 c128_i32
  let v10 : BitVec 32 := v9
  let v11 : Index := Scalar.indexCast v10
  let c0_4 : Index := 0#32
  ![v11.toNat, 0]
def k0_mult3 (i : grid0.Coords) : BitVec 32 :=
  let arg0 : BitVec 32 := BitVec.ofNat 32 (i 0).val
  let c352_i32 : BitVec 32 := 352#32
  let v18 : BitVec 32 := Scalar.muli arg0 c352_i32
  v18
def k0_off2 (i : grid0.Coords) : Fin 2 → Nat :=
  let arg0 : BitVec 32 := BitVec.ofNat 32 (i 0).val
  let c352_i32 : BitVec 32 := 352#32
  let v18 : BitVec 32 := Scalar.muli arg0 c352_i32
  let v19 : BitVec 32 := v18
  let v20 : Index := Scalar.indexCast v19
  let c0_8 : Index := 0#32
  ![v20.toNat, 0]
def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c3_i32 : BitVec 32 := 3#32
  let v2 : BitVec 32 := Scalar.divsi v1 c3_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c3_i32 c0_i32_2
  let v9 : BitVec 32 := Scalar.extui v8
  let c0_i32_3 : BitVec 32 := 0#32
  let v10 : BitVec 1 := Scalar.cmpi .slt c3_i32 c0_i32_3
  let v11 : BitVec 32 := Scalar.extui v10
  let v12 : BitVec 32 := Scalar.subi v9 v11
  let v13 : BitVec 1 := Scalar.cmpi .ne v7 v12
  let v14 : BitVec 32 := Scalar.remsi v1 c3_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2112_i32 : BitVec 32 := 2112#32
  let v19 : BitVec 32 := Scalar.muli v18 c2112_i32
  let c0_i32_5 : BitVec 32 := 0#32
  let v20 : BitVec 32 := Scalar.addi v19 c0_i32_5
  let c3_i32_6 : BitVec 32 := 3#32
  let c0_i32_7 : BitVec 32 := 0#32
  let v21 : BitVec 1 := Scalar.cmpi .eq c3_i32_6 c0_i32_7
  let c1_i32_8 : BitVec 32 := 1#32
  let v22 : BitVec 32 := Scalar.select v21 c1_i32_8 c3_i32_6
  let v23 : BitVec 32 := Scalar.remsi v1 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c688_i32 : BitVec 32 := 688#32
  let v31 : BitVec 32 := Scalar.muli v30 c688_i32
  let v32 : BitVec 32 := Scalar.addi v20 v31
  let v33 : BitVec 32 := v32
  let c0_i32_12 : BitVec 32 := 0#32
  let c0_i32_13 : BitVec 32 := 0#32
  ![v33.toNat, c0_i32_12.toNat]

def cc0_transform_1 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![c6_i32.toNat, c0_i32.toNat, c0_i32_0.toNat]

def cc0_transform_2 (i : grid0.Coords) : Fin 3 → Nat :=
  let arg0 : BitVec 32 := BitVec.ofNat 32 (i 0).val
  let c7_i32 : BitVec 32 := 7#32
  let v0 : BitVec 32 := Scalar.minsi arg0 c7_i32
  let c1_i32 : BitVec 32 := 1#32
  let c0_i32 : BitVec 32 := 0#32
  let c0_i32_0 : BitVec 32 := 0#32
  ![c1_i32.toNat, v0.toNat, c0_i32.toNat]

def cc0_transform_3 (i : grid0.Coords) : Fin 3 → Nat :=
  let arg0 : BitVec 32 := BitVec.ofNat 32 (i 0).val
  let c7_i32 : BitVec 32 := 7#32
  let v0 : BitVec 32 := Scalar.minsi arg0 c7_i32
  let c1_i32 : BitVec 32 := 1#32
  let c0_i32 : BitVec 32 := 0#32
  let c0_i32_0 : BitVec 32 := 0#32
  ![c1_i32.toNat, v0.toNat, c0_i32.toNat]

def cc0_transform_4 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc0_transform_5 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S688x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceFfn1Ideal.lean ====
abbrev S16896x1024 : Shape := ⟨2, ![16896, 1024]⟩
abbrev S2x6x1024 : Shape := ⟨3, ![2, 6, 1024]⟩
abbrev S2x1024x5632 : Shape := ⟨3, ![2, 1024, 5632]⟩
abbrev S2x2816x1024 : Shape := ⟨3, ![2, 2816, 1024]⟩
abbrev S8x2112x1024 : Shape := ⟨3, ![8, 2112, 1024]⟩
abbrev S8x2064x1024 : Shape := ⟨3, ![8, 2064, 1024]⟩
abbrev S1x6x1024 : Shape := ⟨3, ![1, 6, 1024]⟩
abbrev S6x1024 : Shape := ⟨2, ![6, 1024]⟩
abbrev S1x1024 : Shape := ⟨2, ![1, 1024]⟩
abbrev S1024 : Shape := ⟨1, ![1024]⟩
abbrev S_ : Shape := ⟨0, ![]⟩
abbrev S8x2064 : Shape := ⟨2, ![8, 2064]⟩
abbrev S8x2064x1 : Shape := ⟨3, ![8, 2064, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S8x2064x5632 : Shape := ⟨3, ![8, 2064, 5632]⟩
abbrev S8x2064x2816 : Shape := ⟨3, ![8, 2064, 2816]⟩
abbrev S16512x1024 : Shape := ⟨2, ![16512, 1024]⟩

abbrev nBuf : Space → Nat
  | .hbm => 67
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S2x6x1024, .f32⟩
  | .hbm, ⟨2, _⟩ => ⟨S2x1024x5632, .f32⟩
  | .hbm, ⟨3, _⟩ => ⟨S2x2816x1024, .f32⟩
  | .hbm, ⟨4, _⟩ => ⟨S8x2112x1024, .f32⟩
  | .hbm, ⟨5, _⟩ => ⟨S8x2064x1024, .f32⟩
  | .hbm, ⟨6, _⟩ => ⟨S1x6x1024, .f32⟩
  | .hbm, ⟨7, _⟩ => ⟨S6x1024, .f32⟩
  | .hbm, ⟨8, _⟩ => ⟨S1x1024, .f32⟩
  | .hbm, ⟨9, _⟩ => ⟨S1024, .f32⟩
  | .hbm, ⟨10, _⟩ => ⟨S8x2064x1024, .f32⟩
  | .hbm, ⟨11, _⟩ => ⟨S_, .f32⟩
  | .hbm, ⟨12, _⟩ => ⟨S8x2064, .f32⟩
  | .hbm, ⟨13, _⟩ => ⟨S8x2064x1, .f32⟩
  | .hbm, ⟨14, _⟩ => ⟨S_, .f32⟩
  | .hbm, ⟨15, _⟩ => ⟨S8x2064x1, .f32⟩
  | .hbm, ⟨16, _⟩ => ⟨S8x2064x1, .f32⟩
  | .hbm, ⟨17, _⟩ => ⟨S_, .f32⟩
  | .hbm, ⟨18, _⟩ => ⟨S8x2064x1, .f32⟩
  | .hbm, ⟨19, _⟩ => ⟨S8x2064x1, .f32⟩
  | .hbm, ⟨20, _⟩ => ⟨S8x2064x1, .f32⟩
  | .hbm, ⟨21, _⟩ => ⟨S8x2064x1024, .f32⟩
  | .hbm, ⟨22, _⟩ => ⟨S8x2064x1024, .f32⟩
  | .hbm, ⟨23, _⟩ => ⟨S1x1x1024, .f32⟩
  | .hbm, ⟨24, _⟩ => ⟨S8x2064x1024, .f32⟩
  | .hbm, ⟨25, _⟩ => ⟨S8x2064x1024, .f32⟩
  | .hbm, ⟨26, _⟩ => ⟨S1x1024x5632, .f32⟩
  | .hbm, ⟨27, _⟩ => ⟨S1024x5632, .f32⟩
  | .hbm, ⟨28, _⟩ => ⟨S1x2816x1024, .f32⟩
  | .hbm, ⟨29, _⟩ => ⟨S2816x1024, .f32⟩
  | .hbm, ⟨30, _⟩ => ⟨S8x2064x5632, .f32⟩
  | .hbm, ⟨31, _⟩ => ⟨S8x2064x2816, .f32⟩
  | .hbm, ⟨32, _⟩ => ⟨S8x2064x2816, .f32⟩
  | .hbm, ⟨33, _⟩ => ⟨S8x2064x2816, .f32⟩
  | .hbm, ⟨34, _⟩ => ⟨S8x2064x2816, .f32⟩
  | .hbm, ⟨35, _⟩ => ⟨S_, .f32⟩
  | .hbm, ⟨36, _⟩ => ⟨S8x2064x2816, .f32⟩
  | .hbm, ⟨37, _⟩ => ⟨S8x2064x2816, .f32⟩
  | .hbm, ⟨38, _⟩ => ⟨S_, .f32⟩
  | .hbm, ⟨39, _⟩ => ⟨S8x2064x2816, .f32⟩
  | .hbm, ⟨40, _⟩ => ⟨S8x2064x2816, .f32⟩
  | .hbm, ⟨41, _⟩ => ⟨S8x2064x2816, .f32⟩
  | .hbm, ⟨42, _⟩ => ⟨S8x2064x2816, .f32⟩
  | .hbm, ⟨43, _⟩ => ⟨S8x2064x1024, .f32⟩
  | .hbm, ⟨44, _⟩ => ⟨S1x1024, .f32⟩
  | .hbm, ⟨45, _⟩ => ⟨S1024, .f32⟩
  | .hbm, ⟨46, _⟩ => ⟨S8x2064x1024, .f32⟩
  | .hbm, ⟨47, _⟩ => ⟨S_, .f32⟩
  | .hbm, ⟨48, _⟩ => ⟨S8x2064, .f32⟩
  | .hbm, ⟨49, _⟩ => ⟨S8x2064x1, .f32⟩
  | .hbm, ⟨50, _⟩ => ⟨S_, .f32⟩
  | .hbm, ⟨51, _⟩ => ⟨S8x2064x1, .f32⟩
  | .hbm, ⟨52, _⟩ => ⟨S8x2064x1, .f32⟩
  | .hbm, ⟨53, _⟩ => ⟨S_, .f32⟩
  | .hbm, ⟨54, _⟩ => ⟨S8x2064x1, .f32⟩
  | .hbm, ⟨55, _⟩ => ⟨S8x2064x1, .f32⟩
  | .hbm, ⟨56, _⟩ => ⟨S8x2064x1, .f32⟩
  | .hbm, ⟨57, _⟩ => ⟨S8x2064x1024, .f32⟩
  | .hbm, ⟨58, _⟩ => ⟨S8x2064x1024, .f32⟩
  | .hbm, ⟨59, _⟩ => ⟨S1x1x1024, .f32⟩
  | .hbm, ⟨60, _⟩ => ⟨S8x2064x1024, .f32⟩
  | .hbm, ⟨61, _⟩ => ⟨S8x2064x1024, .f32⟩
  | .hbm, ⟨62, _⟩ => ⟨S_, .f32⟩
  | .hbm, ⟨63, _⟩ => ⟨S8x2064x1024, .f32⟩
  | .hbm, ⟨64, _⟩ => ⟨S8x2064x1024, .f32⟩
  | .hbm, ⟨65, _⟩ => ⟨S8x2064x1024, .f32⟩
  | .hbm, ⟨66, _⟩ => ⟨S16512x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_2 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_5 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]
-- ==== KernelEmbed.lean ====
abbrev S8x2048x1024 : Shape := ⟨3, ![8, 2048, 1024]⟩
abbrev S16x1024 : Shape := ⟨2, ![16, 1024]⟩
abbrev S2x6x1024 : Shape := ⟨3, ![2, 6, 1024]⟩
abbrev S2x1024x5632 : Shape := ⟨3, ![2, 1024, 5632]⟩
abbrev S2x2816x1024 : Shape := ⟨3, ![2, 2816, 1024]⟩
abbrev S_ : Shape := ⟨0, ![]⟩
abbrev S16896x1024 : Shape := ⟨2, ![16896, 1024]⟩
abbrev S16384x1024 : Shape := ⟨2, ![16384, 1024]⟩
abbrev S12x1x1024 : Shape := ⟨3, ![12, 1, 1024]⟩
abbrev S16512x1024 : Shape := ⟨2, ![16512, 1024]⟩
abbrev S688x1024 : Shape := ⟨2, ![688, 1024]⟩
abbrev S1x1x1024 : Shape := ⟨3, ![1, 1, 1024]⟩
abbrev S1x128x5632 : Shape := ⟨3, ![1, 128, 5632]⟩
abbrev S1x352x1024 : Shape := ⟨3, ![1, 352, 1024]⟩
abbrev S1024x5632 : Shape := ⟨2, ![1024, 5632]⟩
abbrev S2816x1024 : Shape := ⟨2, ![2816, 1024]⟩
abbrev S128x5632 : Shape := ⟨2, ![128, 5632]⟩
abbrev S352x1024 : Shape := ⟨2, ![352, 1024]⟩
abbrev S672x1024 : Shape := ⟨2, ![672, 1024]⟩
abbrev S1x1024 : Shape := ⟨2, ![1, 1024]⟩
abbrev S688 : Shape := ⟨1, ![688]⟩
abbrev S688x1 : Shape := ⟨2, ![688, 1]⟩
abbrev S688x5632 : Shape := ⟨2, ![688, 5632]⟩
abbrev S688x2816 : Shape := ⟨2, ![688, 2816]⟩

abbrev nBuf : Space → Nat
  | .hbm => 10
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S16x1024, .f32⟩
  | .hbm, ⟨2, _⟩ => ⟨S2x6x1024, .f32⟩
  | .hbm, ⟨3, _⟩ => ⟨S2x1024x5632, .f32⟩
  | .hbm, ⟨4, _⟩ => ⟨S2x2816x1024, .f32⟩
  | .hbm, ⟨5, _⟩ => ⟨S_, .f32⟩
  | .hbm, ⟨6, _⟩ => ⟨S16896x1024, .f32⟩
  | .hbm, ⟨7, _⟩ => ⟨S16384x1024, .f32⟩
  | .hbm, ⟨8, _⟩ => ⟨S12x1x1024, .f32⟩
  | .hbm, ⟨9, _⟩ => ⟨S16512x1024, .f32⟩
  | .local _ .vmem, ⟨0, _⟩ => ⟨S688x1024, .f32⟩
  | .local _ .vmem, ⟨1, _⟩ => ⟨S688x1024, .f32⟩
  | .local _ .vmem, ⟨2, _⟩ => ⟨S16x1024, .f32⟩
  | .local _ .vmem, ⟨3, _⟩ => ⟨S1x1x1024, .f32⟩
  | .local _ .vmem, ⟨4, _⟩ => ⟨S1x128x5632, .f32⟩
  | .local _ .vmem, ⟨5, _⟩ => ⟨S1x128x5632, .f32⟩
  | .local _ .vmem, ⟨6, _⟩ => ⟨S1x352x1024, .f32⟩
  | .local _ .vmem, ⟨7, _⟩ => ⟨S1x352x1024, .f32⟩
  | .local _ .vmem, ⟨8, _⟩ => ⟨S1x1x1024, .f32⟩
  | .local _ .vmem, ⟨9, _⟩ => ⟨S688x1024, .f32⟩
  | .local _ .vmem, ⟨10, _⟩ => ⟨S688x1024, .f32⟩
  | .local _ .vmem, ⟨11, _⟩ => ⟨S1024x5632, .bf16⟩
  | .local _ .vmem, ⟨12, _⟩ => ⟨S2816x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c3_i32 : BitVec 32 := 3#32
  let c0_i32_2 : BitVec 32 := 0#32
  let v8 : BitVec 1 := Scalar.cmpi .sgt c3_i32 c0_i32_2
  let v9 : BitVec 32 := Scalar.extui v8
  let c0_i32_3 : BitVec 32 := 0#32
  let v10 : BitVec 1 := Scalar.cmpi .slt c3_i32 c0_i32_3
  let v11 : BitVec 32 := Scalar.extui v10
  let v12 : BitVec 32 := Scalar.subi v9 v11
  let v13 : BitVec 1 := Scalar.cmpi .ne v7 v12
  let v14 : BitVec 32 := Scalar.remsi v1 c3_i32
  let c0_i32_4 : BitVec 32 := 0#32
  let v15 : BitVec 1 := Scalar.cmpi .ne v14 c0_i32_4
  let v16 : BitVec 1 := Scalar.andi v13 v15
  let v2 : BitVec 32 := Scalar.divsi v1 c3_i32
  let c1_i32 : BitVec 32 := 1#32
  let v17 : BitVec 32 := Scalar.subi v2 c1_i32
  let v18 : BitVec 32 := Scalar.select v16 v17 v2
  let c2048_i32 : BitVec 32 := 2048#32
  let v19 : BitVec 32 := Scalar.muli v18 c2048_i32
  let c3_i32_5 : BitVec 32 := 3#32
  let c0_i32_6 : BitVec 32 := 0#32
  let v20 : BitVec 1 := Scalar.cmpi .eq c3_i32_5 c0_i32_6
  let c1_i32_7 : BitVec 32 := 1#32
  let v21 : BitVec 32 := Scalar.select v20 c1_i32_7 c3_i32_5
  let v22 : BitVec 32 := Scalar.remsi v1 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c688_i32 : BitVec 32 := 688#32
  let v30 : BitVec 32 := Scalar.muli v29 c688_i32
  let c16_i32 : BitVec 32 := 16#32
  let v31 : BitVec 32 := Scalar.subi v30 c16_i32
  let c0_i32_11 : BitVec 32 := 0#32
  let v32 : BitVec 32 := Scalar.maxsi v31 c0_i32_11
  let v33 : BitVec 32 := Scalar.addi v19 v32
  v33
def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_mult2 (i : grid0.Coords) : BitVec 32 :=
  let arg0 : BitVec 32 := BitVec.ofNat 32 (i 0).val
  let c128_i32 : BitVec 32 := 128#32
  let v9 : BitVec 32 := Scalar.muli arg0 c128_i32
  v9
def k0_off1 (i : grid0.Coords) : Fin 2 → Nat :=
  let arg0 : BitVec 32 := BitVec.ofNat 32 (i 0).val
  let c128_i32 : BitVec 32 := 128#32
  let v9 : BitVec 32 := Scalar.muli arg0 c128_i32
  let v10 : BitVec 32 := v9
  let v11 : Index := Scalar.indexCast v10
  let c0_4 : Index := 0#32
  ![v11.toNat, 0]
def k0_mult3 (i : grid0.Coords) : BitVec 32 :=
  let arg0 : BitVec 32 := BitVec.ofNat 32 (i 0).val
  let c352_i32 : BitVec 32 := 352#32
  let v18 : BitVec 32 := Scalar.muli arg0 c352_i32
  v18
def k0_off2 (i : grid0.Coords) : Fin 2 → Nat :=
  let arg0 : BitVec 32 := BitVec.ofNat 32 (i 0).val
  let c352_i32 : BitVec 32 := 352#32
  let v18 : BitVec 32 := Scalar.muli arg0 c352_i32
  let v19 : BitVec 32 := v18
  let v20 : Index := Scalar.indexCast v19
  let c0_8 : Index := 0#32
  ![v20.toNat, 0]
def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c3_i32 : BitVec 32 := 3#32
  let v2 : BitVec 32 := Scalar.divsi v1 c3_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c3_i32 c0_i32_2
  let v9 : BitVec 32 := Scalar.extui v8
  let c0_i32_3 : BitVec 32 := 0#32
  let v10 : BitVec 1 := Scalar.cmpi .slt c3_i32 c0_i32_3
  let v11 : BitVec 32 := Scalar.extui v10
  let v12 : BitVec 32 := Scalar.subi v9 v11
  let v13 : BitVec 1 := Scalar.cmpi .ne v7 v12
  let v14 : BitVec 32 := Scalar.remsi v1 c3_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2048_i32 : BitVec 32 := 2048#32
  let v19 : BitVec 32 := Scalar.muli v18 c2048_i32
  let c3_i32_5 : BitVec 32 := 3#32
  let c0_i32_6 : BitVec 32 := 0#32
  let v20 : BitVec 1 := Scalar.cmpi .eq c3_i32_5 c0_i32_6
  let c1_i32_7 : BitVec 32 := 1#32
  let v21 : BitVec 32 := Scalar.select v20 c1_i32_7 c3_i32_5
  let v22 : BitVec 32 := Scalar.remsi v1 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c688_i32 : BitVec 32 := 688#32
  let v30 : BitVec 32 := Scalar.muli v29 c688_i32
  let c16_i32 : BitVec 32 := 16#32
  let v31 : BitVec 32 := Scalar.subi v30 c16_i32
  let c0_i32_11 : BitVec 32 := 0#32
  let v32 : BitVec 32 := Scalar.maxsi v31 c0_i32_11
  let v33 : BitVec 32 := Scalar.addi v19 v32
  let v34 : BitVec 32 := v33
  let c0_i32_12 : BitVec 32 := 0#32
  let c0_i32_13 : BitVec 32 := 0#32
  ![v34.toNat, c0_i32_12.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x5632 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S688x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceEmbedIdeal.lean ====
abbrev S8x2048x1024 : Shape := ⟨3, ![8, 2048, 1024]⟩
abbrev S16x1024 : Shape := ⟨2, ![16, 1024]⟩
abbrev S2x6x1024 : Shape := ⟨3, ![2, 6, 1024]⟩
abbrev S2x1024x5632 : Shape := ⟨3, ![2, 1024, 5632]⟩
abbrev S2x2816x1024 : Shape := ⟨3, ![2, 2816, 1024]⟩
abbrev S1x16x1024 : Shape := ⟨3, ![1, 16, 1024]⟩
abbrev S8x16x1024 : Shape := ⟨3, ![8, 16, 1024]⟩
abbrev S8x2064x1024 : Shape := ⟨3, ![8, 2064, 1024]⟩
abbrev S1x6x1024 : Shape := ⟨3, ![1, 6, 1024]⟩
abbrev S6x1024 : Shape := ⟨2, ![6, 1024]⟩
abbrev S1x1024 : Shape := ⟨2, ![1, 1024]⟩
abbrev S1024 : Shape := ⟨1, ![1024]⟩
abbrev S_ : Shape := ⟨0, ![]⟩
abbrev S8x2064 : Shape := ⟨2, ![8, 2064]⟩
abbrev S8x2064x1 : Shape := ⟨3, ![8, 2064, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S8x2064x5632 : Shape := ⟨3, ![8, 2064, 5632]⟩
abbrev S8x2064x2816 : Shape := ⟨3, ![8, 2064, 2816]⟩
abbrev S16512x1024 : Shape := ⟨2, ![16512, 1024]⟩

abbrev nBuf : Space → Nat
  | .hbm => 69
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16x1024, .f32⟩
  | .hbm, ⟨2, _⟩ => ⟨S2x6x1024, .f32⟩
  | .hbm, ⟨3, _⟩ => ⟨S2x1024x5632, .f32⟩
  | .hbm, ⟨4, _⟩ => ⟨S2x2816x1024, .f32⟩
  | .hbm, ⟨5, _⟩ => ⟨S1x16x1024, .f32⟩
  | .hbm, ⟨6, _⟩ => ⟨S8x16x1024, .f32⟩
  | .hbm, ⟨7, _⟩ => ⟨S8x2064x1024, .f32⟩
  | .hbm, ⟨8, _⟩ => ⟨S1x6x1024, .f32⟩
  | .hbm, ⟨9, _⟩ => ⟨S6x1024, .f32⟩
  | .hbm, ⟨10, _⟩ => ⟨S1x1024, .f32⟩
  | .hbm, ⟨11, _⟩ => ⟨S1024, .f32⟩
  | .hbm, ⟨12, _⟩ => ⟨S8x2064x1024, .f32⟩
  | .hbm, ⟨13, _⟩ => ⟨S_, .f32⟩
  | .hbm, ⟨14, _⟩ => ⟨S8x2064, .f32⟩
  | .hbm, ⟨15, _⟩ => ⟨S8x2064x1, .f32⟩
  | .hbm, ⟨16, _⟩ => ⟨S_, .f32⟩
  | .hbm, ⟨17, _⟩ => ⟨S8x2064x1, .f32⟩
  | .hbm, ⟨18, _⟩ => ⟨S8x2064x1, .f32⟩
  | .hbm, ⟨19, _⟩ => ⟨S_, .f32⟩
  | .hbm, ⟨20, _⟩ => ⟨S8x2064x1, .f32⟩
  | .hbm, ⟨21, _⟩ => ⟨S8x2064x1, .f32⟩
  | .hbm, ⟨22, _⟩ => ⟨S8x2064x1, .f32⟩
  | .hbm, ⟨23, _⟩ => ⟨S8x2064x1024, .f32⟩
  | .hbm, ⟨24, _⟩ => ⟨S8x2064x1024, .f32⟩
  | .hbm, ⟨25, _⟩ => ⟨S1x1x1024, .f32⟩
  | .hbm, ⟨26, _⟩ => ⟨S8x2064x1024, .f32⟩
  | .hbm, ⟨27, _⟩ => ⟨S8x2064x1024, .f32⟩
  | .hbm, ⟨28, _⟩ => ⟨S1x1024x5632, .f32⟩
  | .hbm, ⟨29, _⟩ => ⟨S1024x5632, .f32⟩
  | .hbm, ⟨30, _⟩ => ⟨S1x2816x1024, .f32⟩
  | .hbm, ⟨31, _⟩ => ⟨S2816x1024, .f32⟩
  | .hbm, ⟨32, _⟩ => ⟨S8x2064x5632, .f32⟩
  | .hbm, ⟨33, _⟩ => ⟨S8x2064x2816, .f32⟩
  | .hbm, ⟨34, _⟩ => ⟨S8x2064x2816, .f32⟩
  | .hbm, ⟨35, _⟩ => ⟨S8x2064x2816, .f32⟩
  | .hbm, ⟨36, _⟩ => ⟨S8x2064x2816, .f32⟩
  | .hbm, ⟨37, _⟩ => ⟨S_, .f32⟩
  | .hbm, ⟨38, _⟩ => ⟨S8x2064x2816, .f32⟩
  | .hbm, ⟨39, _⟩ => ⟨S8x2064x2816, .f32⟩
  | .hbm, ⟨40, _⟩ => ⟨S_, .f32⟩
  | .hbm, ⟨41, _⟩ => ⟨S8x2064x2816, .f32⟩
  | .hbm, ⟨42, _⟩ => ⟨S8x2064x2816, .f32⟩
  | .hbm, ⟨43, _⟩ => ⟨S8x2064x2816, .f32⟩
  | .hbm, ⟨44, _⟩ => ⟨S8x2064x2816, .f32⟩
  | .hbm, ⟨45, _⟩ => ⟨S8x2064x1024, .f32⟩
  | .hbm, ⟨46, _⟩ => ⟨S1x1024, .f32⟩
  | .hbm, ⟨47, _⟩ => ⟨S1024, .f32⟩
  | .hbm, ⟨48, _⟩ => ⟨S8x2064x1024, .f32⟩
  | .hbm, ⟨49, _⟩ => ⟨S_, .f32⟩
  | .hbm, ⟨50, _⟩ => ⟨S8x2064, .f32⟩
  | .hbm, ⟨51, _⟩ => ⟨S8x2064x1, .f32⟩
  | .hbm, ⟨52, _⟩ => ⟨S_, .f32⟩
  | .hbm, ⟨53, _⟩ => ⟨S8x2064x1, .f32⟩
  | .hbm, ⟨54, _⟩ => ⟨S8x2064x1, .f32⟩
  | .hbm, ⟨55, _⟩ => ⟨S_, .f32⟩
  | .hbm, ⟨56, _⟩ => ⟨S8x2064x1, .f32⟩
  | .hbm, ⟨57, _⟩ => ⟨S8x2064x1, .f32⟩
  | .hbm, ⟨58, _⟩ => ⟨S8x2064x1, .f32⟩
  | .hbm, ⟨59, _⟩ => ⟨S8x2064x1024, .f32⟩
  | .hbm, ⟨60, _⟩ => ⟨S8x2064x1024, .f32⟩
  | .hbm, ⟨61, _⟩ => ⟨S1x1x1024, .f32⟩
  | .hbm, ⟨62, _⟩ => ⟨S8x2064x1024, .f32⟩
  | .hbm, ⟨63, _⟩ => ⟨S8x2064x1024, .f32⟩
  | .hbm, ⟨64, _⟩ => ⟨S_, .f32⟩
  | .hbm, ⟨65, _⟩ => ⟨S8x2064x1024, .f32⟩
  | .hbm, ⟨66, _⟩ => ⟨S8x2064x1024, .f32⟩
  | .hbm, ⟨67, _⟩ => ⟨S8x2064x1024, .f32⟩
  | .hbm, ⟨68, _⟩ => ⟨S16512x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_2 : Ref sig .tc := ⟨.hbm, 49, rfl⟩
abbrev main_v33 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_cst_4 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_5 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩

abbrev nD : Nat := 1
abbrev τ : Topo := Topo.v7x

variable {F : FTy → Type} [FloatOps F]
-- ==== Proof.Tiles.lean ====
module

public import Idealize.ShloMosaic.Lib.WholeRead
public import Idealize.ShloMosaic.Lib.WritesUnit
public import Idealize.ShloMosaic.Lib.VecWindow
public import Idealize.ShloMosaic.Lib.ValueIdxCore

/-! What the feed-forward calls share: a scratch that is filled tile by tile, and the load of a whole buffer. -/

@[expose] public section

noncomputable section

namespace Cert.Tiles

open Idealize.ShloMosaic Idealize.ShloMosaic.ValueIdx

variable {F : FTy → Type} [FloatOps F]

/-- `d` is `s` with the rows from `o` on replaced by those of the tile `w`. -/
def RowsPut {e : EltTy} {R W C : ℕ} (o : ℕ) (w : (⟨2, ![W, C]⟩ : Shape).Idx → Elt F e)
    (s d : (⟨2, ![R, C]⟩ : Shape).Idx → Elt F e) : Prop :=
  (∀ (x : (⟨2, ![W, C]⟩ : Shape).Idx) (y : (⟨2, ![R, C]⟩ : Shape).Idx),
      (y 0).val = o + (x 0).val → (y 1).val = (x 1).val → d y = w x)
    ∧ ∀ y : (⟨2, ![R, C]⟩ : Shape).Idx, ((y 0).val < o ∨ o + W ≤ (y 0).val) → d y = s y

/-- The first `n` tiles of `full` put, one more tile's rows put after them are the first `n + 1` tiles. -/
theorem fill_step {e : EltTy} {R W C : ℕ} (hW : 0 < W) (n : ℕ) (w : (⟨2, ![W, C]⟩ : Shape).Idx → Elt F e)
    (full s d : (⟨2, ![R, C]⟩ : Shape).Idx → Elt F e) (hd : RowsPut (W * n) w s d)
    (hs : ∀ y : (⟨2, ![R, C]⟩ : Shape).Idx, (y 0).val < W * n → s y = full y)
    (hf : ∀ y : (⟨2, ![R, C]⟩ : Shape).Idx, (y 0).val / W = n →
      full y = w (ix2 (⟨(y 0).val % W, Nat.mod_lt _ hW⟩ : Fin W) (y 1))) :
    ∀ y : (⟨2, ![R, C]⟩ : Shape).Idx, (y 0).val < W * (n + 1) → d y = full y := by
  intro y hy
  by_cases h : (y 0).val < W * n
  · rw [hd.2 y (Or.inl h), hs y h]
  · have hdiv : (y 0).val / W = n :=
      Nat.div_eq_of_lt_le (by rw [Nat.mul_comm]; omega) (by rw [Nat.mul_comm]; exact hy)
    rw [hf y hdiv]
    have := Nat.div_add_mod (y 0).val W
    rw [hdiv] at this
    exact hd.1 _ y this.symm rfl

/-- A load of a whole buffer held at contents reading `X` is `X`. -/
theorem load_all {sig : RefSig} {S : Shape} {e : EltTy} {m : Memref sig .tc .vmem S e} (h : m.IsWhole) (X : S.Idx → Elt F e)
    {off : Fin S.rank → ℕ} (ho : off = fun _ => 0) (inb : ∀ a, off a + S.size a ≤ S.size a) :
    View.readAt (Elt F) m.view (Rect.unit off S.size inb).toLoadRect (h.unread X) = X := by
  rw [View.readAt_eq_ld, h.read_unread, View.ld_unit_zero ho]

theorem off2 : (![0, 0] : Fin 2 → ℕ) = fun _ => 0 := by decide
theorem off3 : (![0, 0, 0] : Fin 3 → ℕ) = fun _ => 0 := by decide

end Cert.Tiles

end
-- ==== Proof.Mix.Body.lean ====
module

public import proofs.«01_k».proof.Proof.Gen.KernelIdeal.Skeleton
public import proofs.«01_k».proof.Proof.Gen.KernelIdeal.Frame
public import proofs.«01_k».proof.Proof.Tiles
public import Idealize.ShloMosaic.Lib.Claim

/-! The kernel body of the last feed-forward call, run once per case of its conditionals. -/

@[expose] public section

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Tiles

variable {F : FTy → Type} [FloatOps F]

local notation "𝕄" => MT nD τ sig Unit (Elt F) ℕ (UR sig nD τ) ℕ

/-- The upper half of the rows of the projection's layer block. -/
def upper (x : Vec F S1x1024x1024 .bf16) : Vec F S1x512x1024 .bf16 :=
  View.ld x (Rect.unit (s := S1x1024x1024) ![0, 0, 0] S1x512x1024.size inb_S1x1024x1024_S1x512x1024_0_0_0)

/-- The lower half of the rows of the projection's layer block. -/
def lower (x : Vec F S1x1024x1024 .bf16) : Vec F S1x512x1024 .bf16 :=
  View.ld x (Rect.unit (s := S1x1024x1024) ![0, 512, 0] S1x512x1024.size inb_S1x1024x1024_S1x512x1024_0_512_0)

/-- What a working point leaves in the output block: of the residual block, the two mixers' blocks, the projection, the
three norm rows and the two cast weights. -/
def blockOut (x0 : Vec F S512x1024 .f32) (x1 x2 : Vec F S512x512 .bf16) (x3 : Vec F S1x1024x1024 .bf16)
    (x4 x5 x8 : Vec F S1x1x1024 .f32) (s0 : Vec F S1024x5632 .bf16) (s1 : Vec F S2816x1024 .bf16) :
    Vec F S512x1024 .f32 :=
  k0_pay3 (k0_pay4 x0 x1 (upper x3) x2 (lower x3) x4) (k0_pay5 x5)
    (k0_pay6 x0 x1 (upper x3) x2 (lower x3) x4) s0 s1 x8

set_option maxHeartbeats 1000000 in
/-- At a loading point the body casts its two weight tiles into the rows of the two scratches that are theirs, and
copies the residual block to the output block. -/
theorem run_load (c : Dev nD) (i : grid0.Coords)
    (arg1 : Memref sig .tc .vmem S512x1024 .f32) (harg1 : arg1.IsWhole)
    (arg2 : Memref sig .tc .vmem S512x512 .bf16) (harg2 : arg2.IsWhole)
    (arg3 : Memref sig .tc .vmem S512x512 .bf16) (harg3 : arg3.IsWhole)
    (arg4 : Memref sig .tc .vmem S1x1024x1024 .bf16) (harg4 : arg4.IsWhole)
    (arg5 : Memref sig .tc .vmem S1x1x1024 .f32) (harg5 : arg5.IsWhole)
    (arg6 : Memref sig .tc .vmem S1x1x1024 .f32) (harg6 : arg6.IsWhole)
    (arg7 : Memref sig .tc .vmem S1x128x5632 .f32) (harg7 : arg7.IsWhole)
    (arg8 : Memref sig .tc .vmem S1x352x1024 .f32) (harg8 : arg8.IsWhole)
    (arg9 : Memref sig .tc .vmem S1x1x1024 .f32) (harg9 : arg9.IsWhole)
    (arg10 : Memref sig .tc .vmem S512x1024 .f32) (harg10 : arg10.IsWhole)
    (arg11 : Memref sig .tc .vmem S1024x5632 .bf16) (harg11 : arg11.IsWhole)
    (arg12 : Memref sig .tc .vmem S2816x1024 .bf16) (harg12 : arg12.IsWhole)
    (h1 : k0_cond1 i = 1#1) (h2 : ¬ k0_cond2 i = 1#1) {o1 o2 : ℕ} (ho1 : k0_off1 i = ![o1, 0]) (ho2 : k0_off2 i = ![o2, 0])
    (x0 : Vec F S512x1024 .f32) (x1 : Vec F S512x512 .bf16) (x2 : Vec F S512x512 .bf16) (x3 : Vec F S1x1024x1024 .bf16) (x4 : Vec F S1x1x1024 .f32) (x5 : Vec F S1x1x1024 .f32) (x6 : Vec F S1x128x5632 .f32) (x7 : Vec F S1x352x1024 .f32) (x8 : Vec F S1x1x1024 .f32)
    (s0 : Vec F S1024x5632 .bf16) (s1 : Vec F S2816x1024 .bf16)
    (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8 ∗ (∃ d, owns (c : Thread nD τ) arg10 fullShare d)
        ∗ owns (c : Thread nD τ) arg11 fullShare s0 ∗ owns (c : Thread nD τ) arg12 fullShare s1
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8 ∗ owns (c : Thread nD τ) arg10 fullShare x0
            ∗ (∃ d, ⌜RowsPut o1 (k0_pay1 x6) s0 d⌝ ∗ owns (c : Thread nD τ) arg11 fullShare d)
            ∗ (∃ d, ⌜RowsPut o2 (k0_pay2 x7) s1 d⌝ ∗ owns (c : Thread nD τ) arg12 fullShare d)) -∗ K ⟨⟩))
      ⊢ wp frame (wpE (defs₀ (F := F)) Variants.none c none) E (cc0_ffn_mix i arg1 harg1 arg2 harg2 arg3 harg3 arg4 harg4 arg5 harg5 arg6 harg6 arg7 harg7 arg8 harg8 arg9 harg9 arg10 harg10 arg11 harg11 arg12 harg12) K := by
  simp only [cc0_ffn_mix_eq_skeleton]; unfold cc0_ffn_mix_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%dO, %fO, -, HO⟩, ⟨%g0, %hg0, HS0⟩, ⟨%g1, %hg1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  obtain rfl := harg11.eq_unread hg0; obtain rfl := harg12.eq_unread hg1
  sl_exec (disch := first | sl_exact h1 | sl_exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [HO]
  · iexists _; isplitr; swap; · iexact HO
    ipureintro
    rw [View.read_writes_full arg10.view fO inb_S512x1024_S512x1024_0_0, load_all harg1 x0 off2]
  isplitl [HS0]
  · iexists _; isplitr; swap
    · iexists _; isplitr; swap; · iexact HS0
      ipureintro; rfl
    ipureintro
    constructor
    · intro x y hx hy
      rw [load_all harg7 x6 off3]
      exact View.read_writes_cons_rows_of_mem _ _ _ _ _ y x ho1 hx hy
    · intro y hy
      rw [View.read_writes_cons_rows_of_not_mem _ _ _ _ _ y ho1 rfl hy, View.writes_nil, harg11.read_unread]
  iexists _; isplitr; swap
  · iexists _; isplitr; swap; · iexact HS1
    ipureintro; rfl
  ipureintro
  constructor
  · intro x y hx hy
    rw [load_all harg8 x7 off3]
    exact View.read_writes_cons_rows_of_mem _ _ _ _ _ y x ho2 hx hy
  · intro y hy
    rw [View.read_writes_cons_rows_of_not_mem _ _ _ _ _ y ho2 rfl hy, View.writes_nil, harg12.read_unread]

set_option maxHeartbeats 1000000 in
/-- At a working point the body leaves `blockOut` of its blocks and of the scratches in the output block. -/
theorem run_work (c : Dev nD) (i : grid0.Coords)
    (arg1 : Memref sig .tc .vmem S512x1024 .f32) (harg1 : arg1.IsWhole)
    (arg2 : Memref sig .tc .vmem S512x512 .bf16) (harg2 : arg2.IsWhole)
    (arg3 : Memref sig .tc .vmem S512x512 .bf16) (harg3 : arg3.IsWhole)
    (arg4 : Memref sig .tc .vmem S1x1024x1024 .bf16) (harg4 : arg4.IsWhole)
    (arg5 : Memref sig .tc .vmem S1x1x1024 .f32) (harg5 : arg5.IsWhole)
    (arg6 : Memref sig .tc .vmem S1x1x1024 .f32) (harg6 : arg6.IsWhole)
    (arg7 : Memref sig .tc .vmem S1x128x5632 .f32) (harg7 : arg7.IsWhole)
    (arg8 : Memref sig .tc .vmem S1x352x1024 .f32) (harg8 : arg8.IsWhole)
    (arg9 : Memref sig .tc .vmem S1x1x1024 .f32) (harg9 : arg9.IsWhole)
    (arg10 : Memref sig .tc .vmem S512x1024 .f32) (harg10 : arg10.IsWhole)
    (arg11 : Memref sig .tc .vmem S1024x5632 .bf16) (harg11 : arg11.IsWhole)
    (arg12 : Memref sig .tc .vmem S2816x1024 .bf16) (harg12 : arg12.IsWhole)
    (h1 : ¬ k0_cond1 i = 1#1) (h2 : k0_cond2 i = 1#1)
    (x0 : Vec F S512x1024 .f32) (x1 : Vec F S512x512 .bf16) (x2 : Vec F S512x512 .bf16) (x3 : Vec F S1x1024x1024 .bf16) (x4 : Vec F S1x1x1024 .f32) (x5 : Vec F S1x1x1024 .f32) (x6 : Vec F S1x128x5632 .f32) (x7 : Vec F S1x352x1024 .f32) (x8 : Vec F S1x1x1024 .f32)
    (s0 : Vec F S1024x5632 .bf16) (s1 : Vec F S2816x1024 .bf16)
    (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8 ∗ (∃ d, owns (c : Thread nD τ) arg10 fullShare d)
        ∗ owns (c : Thread nD τ) arg11 fullShare s0 ∗ owns (c : Thread nD τ) arg12 fullShare s1
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8 ∗ owns (c : Thread nD τ) arg10 fullShare (blockOut x0 x1 x2 x3 x4 x5 x8 s0 s1)
            ∗ owns (c : Thread nD τ) arg11 fullShare s0 ∗ owns (c : Thread nD τ) arg12 fullShare s1) -∗ K ⟨⟩))
      ⊢ wp frame (wpE (defs₀ (F := F)) Variants.none c none) E (cc0_ffn_mix i arg1 harg1 arg2 harg2 arg3 harg3 arg4 harg4 arg5 harg5 arg6 harg6 arg7 harg7 arg8 harg8 arg9 harg9 arg10 harg10 arg11 harg11 arg12 harg12) K := by
  simp only [cc0_ffn_mix_eq_skeleton]; unfold cc0_ffn_mix_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%dO, %fO, -, HO⟩, ⟨%g0, %hg0, HS0⟩, ⟨%g1, %hg1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  obtain rfl := harg11.eq_unread hg0; obtain rfl := harg12.eq_unread hg1
  sl_exec (disch := first | sl_exact h1 | sl_exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [HO]
  · iexists _; isplitr; swap; · iexact HO
    ipureintro
    rw [View.read_writes_full arg10.view fO inb_S512x1024_S512x1024_0_0]
    sl_unfold_words
    rw [load_all harg11 s0 off2, load_all harg12 s1 off2, load_all harg9 x8 off3, load_all harg1 x0 off2,
      load_all harg2 x1 off2, load_all harg3 x2 off2, load_all harg5 x4 off3, load_all harg6 x5 off3]
    simp only [View.readAt_eq_ld, harg4.read_unread]
    rfl
  isplitl [HS0]
  · iexists _; isplitr; · ipureintro; exact harg11.read_unread _
    iexact HS0
  iexists _; isplitr; · ipureintro; exact harg12.read_unread _
  iexact HS1

end Cert.KernelIdeal.Mix

end
-- ==== Proof.Mix.Run.lean ====
module

public import proofs.«01_k».proof.Proof.Mix.Body

/-! The run of the last feed-forward call over any element semantics: the two scratches fill with the cast weights at
the loading points, and every working point leaves its block of the result. -/

@[expose] public section

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen Cert.Tiles

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point whose tile holds row `r` of a weight that comes in tiles of `W` rows. -/
abbrev tilePt (R W r : ℕ) (hr : r < R) (hR : R = W * 8) : Fin cfg0.N :=
  ⟨r / W, by rw [show cfg0.N = 40 from N_0]; have := Nat.div_lt_of_lt_mul (hR ▸ hr); omega⟩

/-- The first weight, cast, row by row from the tiles of the loading points. -/
def castIn (c : Dev nD) : Vec F S1024x5632 .bf16 := fun y =>
  k0_pay1 (iblk m c 6 (tilePt 1024 128 (y 0).val (y 0).isLt rfl))
    (ix2 (⟨(y 0).val % 128, Nat.mod_lt _ (by decide)⟩ : Fin 128) (y 1))

/-- The second weight, cast, row by row from the tiles of the loading points. -/
def castOut (c : Dev nD) : Vec F S2816x1024 .bf16 := fun y =>
  k0_pay2 (iblk m c 7 (tilePt 2816 352 (y 0).val (y 0).isLt rfl))
    (ix2 (⟨(y 0).val % 352, Nat.mod_lt _ (by decide)⟩ : Fin 352) (y 1))

/-- After `n` points the first `n` tiles' rows of the scratches hold the cast weights. -/
def Filled (c : Dev nD) (n : ℕ) (s0 : Vec F S1024x5632 .bf16) (s1 : Vec F S2816x1024 .bf16) : Prop :=
  (∀ y : S1024x5632.Idx, (y 0).val < 128 * n → s0 y = castIn m c y)
    ∧ ∀ y : S2816x1024.Idx, (y 0).val < 352 * n → s1 y = castOut m c y

theorem filled_zero (c : Dev nD) (s0 : Vec F S1024x5632 .bf16) (s1 : Vec F S2816x1024 .bf16) : Filled m c 0 s0 s1 :=
  ⟨fun _ h => absurd h (by omega), fun _ h => absurd h (by omega)⟩

theorem filled_succ (c : Dev nD) (t : Fin cfg0.N) (s0 d0 : Vec F S1024x5632 .bf16) (s1 d1 : Vec F S2816x1024 .bf16)
    (h : Filled m c t.val s0 s1) (h0 : RowsPut (128 * t.val) (k0_pay1 (iblk m c 6 t)) s0 d0)
    (h1 : RowsPut (352 * t.val) (k0_pay2 (iblk m c 7 t)) s1 d1) : Filled m c (t.val + 1) d0 d1 := by
  refine ⟨fill_step (by decide) t.val _ (castIn m c) s0 d0 h0 h.1 ?_,
    fill_step (by decide) t.val _ (castOut m c) s1 d1 h1 h.2 ?_⟩
  · intro y hy
    unfold castIn
    rw [show tilePt 1024 128 (y 0).val (y 0).isLt rfl = t from Fin.ext hy]
  · intro y hy
    unfold castOut
    rw [show tilePt 2816 352 (y 0).val (y 0).isLt rfl = t from Fin.ext hy]

/-- From the eighth point on the scratches hold the cast weights whole. -/
theorem filled_full (c : Dev nD) {n : ℕ} (hn : 8 ≤ n) (s0 : Vec F S1024x5632 .bf16) (s1 : Vec F S2816x1024 .bf16)
    (h : Filled m c n s0 s1) : s0 = castIn m c ∧ s1 = castOut m c := by
  constructor
  · funext y
    have : (y 0).val < 1024 := (y 0).isLt
    exact h.1 y (by omega)
  · funext y
    have : (y 0).val < 2816 := (y 0).isLt
    exact h.2 y (by omega)

theorem filled_of_full (c : Dev nD) (n : ℕ) : Filled m c n (castIn m c) (castOut m c) :=
  ⟨fun _ _ => rfl, fun _ _ => rfl⟩

/-- What the result's block holds after point `t`. -/
def outBlock (c : Dev nD) (t : Fin cfg0.N) : Vec F S512x1024 .f32 :=
  if t.val < 8 then iblk m c 0 t
  else blockOut (iblk m c 0 t) (iblk m c 1 t) (iblk m c 2 t) (iblk m c 3 t) (iblk m c 4 t) (iblk m c 5 t) (iblk m c 8 t)
    (castIn m c) (castOut m c)

/-- The scratches before point `n`: filled as far as the points before have loaded. -/
def inv (c : Dev nD) (n : ℕ) : sProp 𝕄 :=
  iprop(∃ s0 s1, ⌜Filled m c n s0 s1⌝ ∗ owns (c : Thread nD τ) (Memref.whole cc0_scratch0) fullShare s0
    ∗ owns (c : Thread nD τ) (Memref.whole cc0_scratch1) fullShare s1 ∗ (∃ r, prngReg c r))

/-- The data of the pipeline: every input's buffer at its block, the output's at `outBlock`, the scratches filling. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlock m c t
  Φ n := inv m c n.val
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = outBlock m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

abbrev stg0 (t : Fin cfg0.N) := win0_0.stage (cfg0.slots t 0)
abbrev stg1 (t : Fin cfg0.N) := win0_1.stage (cfg0.slots t 1)
abbrev stg2 (t : Fin cfg0.N) := win0_2.stage (cfg0.slots t 2)
abbrev stg3 (t : Fin cfg0.N) := win0_3.stage (cfg0.slots t 3)
abbrev stg4 (t : Fin cfg0.N) := win0_4.stage (cfg0.slots t 4)
abbrev stg5 (t : Fin cfg0.N) := win0_5.stage (cfg0.slots t 5)
abbrev stg6 (t : Fin cfg0.N) := win0_6.stage (cfg0.slots t 6)
abbrev stg7 (t : Fin cfg0.N) := win0_7.stage (cfg0.slots t 7)
abbrev stg8 (t : Fin cfg0.N) := win0_8.stage (cfg0.slots t 8)
abbrev stg9 (t : Fin cfg0.N) := win0_9.stage (cfg0.slots t 9)

/-- The output is stored at every point. -/
theorem idle_out : ∀ t : Fin cfg0.N, cfg0.idle 9 (cfg0.grid.coords t) = false :=
  (by decide +kernel : ∀ t : Fin grid0.N, idle0 9 (grid0.coords t) = false)

theorem leaves_0 (c : Dev nD) (t : Fin cfg0.N) :
    (dats m 0 c).leavesExact 0 t = owns (c : Thread nD τ) (stg0 t) fullShare (iblk m c 0 t) := by
  unfold Dat.leavesExact
  rw [show cfg0.idle 0 (cfg0.grid.coords t) = false from rfl, after_0]
theorem leaves_1 (c : Dev nD) (t : Fin cfg0.N) :
    (dats m 0 c).leavesExact 1 t = owns (c : Thread nD τ) (stg1 t) fullShare (iblk m c 1 t) := by
  unfold Dat.leavesExact
  rw [show cfg0.idle 1 (cfg0.grid.coords t) = false from rfl, after_1]
theorem leaves_2 (c : Dev nD) (t : Fin cfg0.N) :
    (dats m 0 c).leavesExact 2 t = owns (c : Thread nD τ) (stg2 t) fullShare (iblk m c 2 t) := by
  unfold Dat.leavesExact
  rw [show cfg0.idle 2 (cfg0.grid.coords t) = false from rfl, after_2]
theorem leaves_3 (c : Dev nD) (t : Fin cfg0.N) :
    (dats m 0 c).leavesExact 3 t = owns (c : Thread nD τ) (stg3 t) fullShare (iblk m c 3 t) := by
  unfold Dat.leavesExact
  rw [show cfg0.idle 3 (cfg0.grid.coords t) = false from rfl, after_3]
theorem leaves_4 (c : Dev nD) (t : Fin cfg0.N) :
    (dats m 0 c).leavesExact 4 t = owns (c : Thread nD τ) (stg4 t) fullShare (iblk m c 4 t) := by
  unfold Dat.leavesExact
  rw [show cfg0.idle 4 (cfg0.grid.coords t) = false from rfl, after_4]
theorem leaves_5 (c : Dev nD) (t : Fin cfg0.N) :
    (dats m 0 c).leavesExact 5 t = owns (c : Thread nD τ) (stg5 t) fullShare (iblk m c 5 t) := by
  unfold Dat.leavesExact
  rw [show cfg0.idle 5 (cfg0.grid.coords t) = false from rfl, after_5]
theorem leaves_6 (c : Dev nD) (t : Fin cfg0.N) :
    (dats m 0 c).leavesExact 6 t = owns (c : Thread nD τ) (stg6 t) fullShare (iblk m c 6 t) := by
  unfold Dat.leavesExact
  rw [show cfg0.idle 6 (cfg0.grid.coords t) = false from rfl, after_6]
theorem leaves_7 (c : Dev nD) (t : Fin cfg0.N) :
    (dats m 0 c).leavesExact 7 t = owns (c : Thread nD τ) (stg7 t) fullShare (iblk m c 7 t) := by
  unfold Dat.leavesExact
  rw [show cfg0.idle 7 (cfg0.grid.coords t) = false from rfl, after_7]
theorem leaves_8 (c : Dev nD) (t : Fin cfg0.N) :
    (dats m 0 c).leavesExact 8 t = owns (c : Thread nD τ) (stg8 t) fullShare (iblk m c 8 t) := by
  unfold Dat.leavesExact
  rw [show cfg0.idle 8 (cfg0.grid.coords t) = false from rfl, after_8]
theorem leaves_9 (c : Dev nD) (t : Fin cfg0.N) :
    (dats m 0 c).leavesExact 9 t = owns (c : Thread nD τ) (stg9 t) fullShare (outBlock m c t) := by
  unfold Dat.leavesExact
  rw [show cfg0.idle 9 (cfg0.grid.coords t) = false from idle_out t, after_9]

theorem load_iff : ∀ t : Fin cfg0.N, k0_cond1 (grid0.coords t) = 1#1 ↔ t.val < 8 :=
  (by decide +kernel : ∀ t : Fin grid0.N, k0_cond1 (grid0.coords t) = 1#1 ↔ t.val < 8)
theorem work_iff : ∀ t : Fin cfg0.N, k0_cond2 (grid0.coords t) = 1#1 ↔ 8 ≤ t.val :=
  (by decide +kernel : ∀ t : Fin grid0.N, k0_cond2 (grid0.coords t) = 1#1 ↔ 8 ≤ t.val)
theorem rows_in : ∀ t : Fin cfg0.N, k0_off1 (grid0.coords t) = ![128 * t.val, 0] :=
  (by decide +kernel : ∀ t : Fin grid0.N, k0_off1 (grid0.coords t) = ![128 * t.val, 0])
theorem rows_out : ∀ t : Fin cfg0.N, k0_off2 (grid0.coords t) = ![352 * t.val, 0] :=
  (by decide +kernel : ∀ t : Fin grid0.N, k0_off2 (grid0.coords t) = ![352 * t.val, 0])

/-- What the body is given at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d)))

/-- and what it gives back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 2400000 in
/-- The body at a point takes what it is given to what it gives back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, leaves_0, leaves_1, leaves_2, leaves_3, leaves_4, leaves_5, leaves_6, leaves_7, leaves_8, leaves_9]
  rw [show (dats m 0 c).owesAt () t.succ = (dats m 0 c).owesAt () t.castSucc from rfl,
    show (dats m 0 c).Φ t.castSucc = inv m c t.val from rfl, show (dats m 0 c).Φ t.succ = inv m c (t.val + 1) from rfl]
  unfold inv
  iintro ⟨⟨%s0, %s1, %hfill, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  by_cases h : t.val < 8
  · rw [show outBlock m c t = iblk m c 0 t from if_pos h]
    iapply ((run_load c (grid0.coords t) _ _ _ _ _ _ _ _ _ _ _ _ _ _ _ _ _ _ _ _ _ _ _ _ ((load_iff t).mpr h)
      (fun h' => absurd ((work_iff t).mp h') (by omega)) (rows_in t) (rows_out t) (iblk m c 0 t) (iblk m c 1 t) (iblk m c 2 t) (iblk m c 3 t) (iblk m c 4 t) (iblk m c 5 t) (iblk m c 6 t) (iblk m c 7 t) (iblk m c 8 t) s0 s1) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    iintro ⟨H0, H1, H2, H3, H4, H5, H6, H7, H8, H9, ⟨%e0, %he0, HS0⟩, ⟨%e1, %he1, HS1⟩⟩
    isplitl [HS0 HS1 Hg]
    · iexists e0, e1
      isplitr; · ipureintro; exact filled_succ m c t s0 e0 s1 e1 hfill he0 he1
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · obtain ⟨rfl, rfl⟩ := filled_full m c (by omega) s0 s1 hfill
    rw [show outBlock m c t = _ from if_neg h]
    iapply ((run_work c (grid0.coords t) _ _ _ _ _ _ _ _ _ _ _ _ _ _ _ _ _ _ _ _ _ _ _ _ (fun h' => h ((load_iff t).mp h'))
      ((work_iff t).mpr (by omega)) (iblk m c 0 t) (iblk m c 1 t) (iblk m c 2 t) (iblk m c 3 t) (iblk m c 4 t) (iblk m c 5 t) (iblk m c 6 t) (iblk m c 7 t) (iblk m c 8 t) (castIn m c) (castOut m c)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hg]
    · iexists (castIn m c), (castOut m c)
      isplitr; · ipureintro; exact filled_of_full m c _
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at the pipeline's label is the body. -/
theorem body_row (t : Fin cfg0.N) : defs₀ .tc cfg0.body (cfg0.bodyArgs t (cfg0.slots t)) = bodyAt0 (F := F) t := by
  unfold defs₀; rw [Defs.onTc_tc]

theorem body_obligation (c : Dev nD) :
    BodyObligation (dats (F := F) m 0 c) (defs₀ (F := F)) Variants.none () Set.univ := fun t => by
  rw [bigSep_W0, bigSep_W0, body_row]
  exact triple_restated (sound_body m c t) rfl .rfl fun _ => .rfl

/-- The scratches at anything are the scratches before the first point. -/
theorem inv_in (c : Dev nD) : Pipeline.ΦA spec0 c ⊢ (dats m 0 c).Φ 0 := by
  rw [show (dats m 0 c).Φ 0 = inv m c 0 from rfl]
  unfold inv Pipeline.ΦA
  rw [scopedRest0_eq]
  simp only [owns_whole]
  iintro ⟨⟨⟨%s0, HS0⟩, ⟨%s1, HS1⟩⟩, Hg⟩
  iexists s0, s1
  isplitr; · ipureintro; exact filled_zero m c _ _
  isplitl [HS0]; · iexact HS0
  isplitl [HS1]; · iexact HS1
  iexact Hg

/-- The filled scratches are scratches at something. -/
theorem inv_out (c : Dev nD) : (dats m 0 c).Φ (Fin.last cfg0.N) ⊢ Pipeline.ΦA spec0 c := by
  rw [show (dats m 0 c).Φ (Fin.last cfg0.N) = inv m c cfg0.N from rfl]
  unfold inv Pipeline.ΦA
  rw [scopedRest0_eq]
  simp only [owns_whole]
  iintro ⟨%s0, %s1, -, HS0, HS1, Hg⟩
  isplitl [HS0 HS1]
  · isplitl [HS0]
    · iexists s0; iexact HS0
    · iexists s1; iexact HS1
  iexact Hg

set_option backward.isDefEq.respectTransparency.types false in
/-- The whole run: the arrays end at what the write-backs leave, and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl) (howed := fun _ _ => rfl) (V := V m)
    (hmain := hmain m Variants.none) (hA := A_eq m) (hin := inv_in m) (hout := inv_out m) (hQ' := fun _ h => h)

/-- Every run ends with the arguments as they were and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- Every run ends with the result's array at what the write-backs leave. -/
theorem result_run : θ_run defs (onTc (τ := τ) (main (F := F))) ⟨m, fun _ => 0, ρ⟩ (fun r => ∀ c : Dev nD,
      r.2.mem ((c.tc : Thread nD τ).loc main_v2) = (dats m 0 c).arrAt 9 cfg0.N) :=
  (θ_run defs _ _).mono (fun _ h c => (h.1 c).1 9) (run_main m ρ)

end Cert.KernelIdeal.Mix

end
-- ==== Proof.Mix.Row.lean ====
module

public import Idealize.ShloMosaic.Lib.Pointwise

/-! The feed-forward layer of one row (one token), over the extended reals. -/

@[expose] public section

noncomputable section

namespace Cert.Row

open Idealize.ShloMosaic

/-- The row `x` divided by the root of its mean square (plus the small constant) and scaled by `g`. -/
def rms (x g : Fin 1024 → EReal) : Fin 1024 → EReal := fun j =>
  x j * Ideal.rsqrt (Ideal.div (∑ k, x k * x k) (Ideal.ofBits .f32 0x44800000#32) + Ideal.ofBits .f32 0x358637BD#32) * g j

/-- The row times the left half of the first weight. -/
def gate (x : Fin 1024 → EReal) (w : Fin 1024 → Fin 5632 → EReal) (q : Fin 2816) : EReal :=
  ∑ k, x k * w k ⟨q.val, Nat.lt_of_lt_of_le q.isLt (by decide)⟩

/-- The row times the right half of the first weight. -/
def up (x : Fin 1024 → EReal) (w : Fin 1024 → Fin 5632 → EReal) (q : Fin 2816) : EReal :=
  ∑ k, x k * w k ⟨2816 + q.val, Nat.add_lt_add_left q.isLt 2816⟩

/-- The gated hidden row times the second weight. -/
def swiglu (x : Fin 1024 → EReal) (w : Fin 1024 → Fin 5632 → EReal) (u : Fin 2816 → Fin 1024 → EReal) :
    Fin 1024 → EReal := fun j =>
  ∑ q, gate x w q * Ideal.logistic (gate x w q) * up x w q * u q j

/-- The row plus half of its normalised feed-forward value. -/
def ffn (h g₄ g₅ : Fin 1024 → EReal) (w : Fin 1024 → Fin 5632 → EReal) (u : Fin 2816 → Fin 1024 → EReal) :
    Fin 1024 → EReal := fun j =>
  h j + Ideal.ofBits .f32 0x3F000000#32 * rms (swiglu (rms h g₄) w u) g₅ j

/-- The two mixers' rows, side by side, times the output projection. -/
def proj (a b : Fin 512 → EReal) (p : Fin 1024 → Fin 1024 → EReal) : Fin 1024 → EReal := fun j =>
  (∑ k : Fin 512, a k * p ⟨k.val, Nat.lt_of_lt_of_le k.isLt (by decide)⟩ j)
    + ∑ k : Fin 512, b k * p ⟨512 + k.val, Nat.add_lt_add_left k.isLt 512⟩ j

/-- The row plus its normalised projection of the mixers' rows. -/
def mix (h : Fin 1024 → EReal) (a b : Fin 512 → EReal) (p : Fin 1024 → Fin 1024 → EReal) (g₃ : Fin 1024 → EReal) :
    Fin 1024 → EReal := fun j => h j + rms (proj a b p) g₃ j

/-- A sum over 1024 terms is the sum of the first 512 and the sum of the last 512. -/
theorem sum_halves (f : Fin 1024 → EReal) :
    ∑ k, f k = (∑ k : Fin 512, f ⟨k.val, Nat.lt_of_lt_of_le k.isLt (by decide)⟩)
      + ∑ k : Fin 512, f ⟨512 + k.val, Nat.add_lt_add_left k.isLt 512⟩ :=
  Fin.sum_univ_add (a := 512) (b := 512) f

end Cert.Row
-- ==== Proof.Mix.Value.lean ====
module

public import proofs.«01_k».proof.Proof.Mix.Run
public import proofs.«01_k».proof.Proof.Mix.Row
public import Idealize.ShloMosaic.Lib.Pipeline.ValueKit

/-! The last feed-forward call's result over the extended reals, as a function of its arguments, row by row. -/

@[expose] public section

set_option maxRecDepth 16384

noncomputable section

namespace Cert.KernelIdeal.Mix

open Idealize.ShloMosaic Idealize.ShloMosaic.TcCoe
open Idealize.ShloMosaic.Pipeline (Dat Cfg Window)
open Cert.KernelIdeal.Gen

/-! ### The body's payloads, row by row -/

/-- The residual block plus the normalised projection, at row `r`. -/
theorem pay4_apply (x0 : Vec Ideal S512x1024 .f32) (x1 x2 : Vec Ideal S512x512 .bf16) (x3 : Vec Ideal S1x1024x1024 .bf16)
    (x4 : Vec Ideal S1x1x1024 .f32) (r : Fin 512) (j : Fin 1024) :
    k0_pay4 x0 x1 (upper x3) x2 (lower x3) x4 (ix2 r j)
      = Row.mix (fun k => x0 (ix2 r k)) (fun k => x1 (ix2 r k)) (fun k => x2 (ix2 r k)) (fun k j => x3 (ix3 0 k j))
          (fun k => x4 (ix3 0 0 k)) j := by
  pointwise [k0_pay4, upper, lower]
  rfl

/-- The mean square of that row plus the small constant. -/
theorem pay6_apply (x0 : Vec Ideal S512x1024 .f32) (x1 x2 : Vec Ideal S512x512 .bf16) (x3 : Vec Ideal S1x1024x1024 .bf16)
    (x4 : Vec Ideal S1x1x1024 .f32) (r : Fin 512) :
    k0_pay6 x0 x1 (upper x3) x2 (lower x3) x4 (ix2 r 0)
      = Ideal.div (∑ k, k0_pay4 x0 x1 (upper x3) x2 (lower x3) x4 (ix2 r k) * k0_pay4 x0 x1 (upper x3) x2 (lower x3) x4 (ix2 r k))
          (Ideal.ofBits .f32 0x44800000#32) + Ideal.ofBits .f32 0x358637BD#32 := by
  pointwise [k0_pay6, k0_pay4]

/-- The stored block at row `r`: the feed-forward layer of the mixed row. -/
theorem blockOut_apply (x0 : Vec Ideal S512x1024 .f32) (x1 x2 : Vec Ideal S512x512 .bf16)
    (x3 : Vec Ideal S1x1024x1024 .bf16) (x4 x5 x8 : Vec Ideal S1x1x1024 .f32) (s0 : Vec Ideal S1024x5632 .bf16)
    (s1 : Vec Ideal S2816x1024 .bf16) (r : Fin 512) (j : Fin 1024) :
    blockOut x0 x1 x2 x3 x4 x5 x8 s0 s1 (ix2 r j)
      = Row.ffn (Row.mix (fun k => x0 (ix2 r k)) (fun k => x1 (ix2 r k)) (fun k => x2 (ix2 r k))
          (fun k j => x3 (ix3 0 k j)) (fun k => x4 (ix3 0 0 k))) (fun k => x5 (ix3 0 0 k)) (fun k => x8 (ix3 0 0 k))
          (fun k q => s0 (ix2 k q)) (fun q k => s1 (ix2 q k)) j := by
  pointwise [blockOut, k0_pay3, k0_pay5]
  rw [pay6_apply]
  simp only [pay4_apply]
  rfl

/-! ### The blocks, read off the arguments -/

variable (m : (ℓ : Loc nD τ sig) → Buf (Elt Ideal) ℓ)

/-- Where the blocks of point `t` begin. -/
theorem idx_in : ∀ t : Fin cfg0.N, win0_0.index t = ![(t.val - 8) / 4 * 2112 + 16 + (t.val - 8) % 4 * 512, 0]
    ∧ win0_1.index t = ![(t.val - 8) / 4 * 2112 + 16 + (t.val - 8) % 4 * 512, 0]
    ∧ win0_2.index t = ![(t.val - 8) / 4 * 2112 + 16 + (t.val - 8) % 4 * 512, 0]
    ∧ win0_3.index t = ![1, 0, 0] ∧ win0_4.index t = ![9, 0, 0] ∧ win0_5.index t = ![10, 0, 0]
    ∧ win0_6.index t = ![1, min t.val 7, 0] ∧ win0_7.index t = ![1, min t.val 7, 0] ∧ win0_8.index t = ![11, 0, 0]
    ∧ win0_9.index t = ![t.val - 8, 0] := by decide +kernel

/-- The row of the padded arrays where the block of point `t` begins, `r` rows on. -/
def row (t : Fin cfg0.N) (r : Fin 512) : Fin 16896 :=
  ⟨(t.val - 8) / 4 * 2112 + 16 + (t.val - 8) % 4 * 512 + r.val, by
    have := lt_of_lt_of_eq t.isLt N_0; omega⟩

/-- The residual block is 512 rows of the padded residual stream. -/
theorem blk_0 (c : Dev nD) (t : Fin cfg0.N) (r : Fin 512) (k : Fin 1024) :
    (iblk m c 0 t : Vec Ideal S512x1024 .f32) (ix2 r k) = m ((c : Thread nD τ).loc main_arg0) (ix2 (row t r) k) := by
  blk_ext [iblk, V_main_arg0, row]
  · exact (Window.rect_emb_val_off win0_0 t (ix2 r k) 0).trans (by rw [(idx_in t).1]; rfl)
  · exact (Window.rect_emb_val_off win0_0 t (ix2 r k) 1).trans (by rw [(idx_in t).1]; exact Nat.zero_add _)

/-- The first mixer's block is the same rows of its array. -/
theorem blk_1 (c : Dev nD) (t : Fin cfg0.N) (r : Fin 512) (k : Fin 512) :
    (iblk m c 1 t : Vec Ideal S512x512 .bf16) (ix2 r k) = m ((c : Thread nD τ).loc main_arg1) (ix2 (row t r) k) := by
  blk_ext [iblk, V_main_arg1, row]
  · exact (Window.rect_emb_val_off win0_1 t (ix2 r k) 0).trans (by rw [(idx_in t).2.1]; rfl)
  · exact (Window.rect_emb_val_off win0_1 t (ix2 r k) 1).trans (by rw [(idx_in t).2.1]; exact Nat.zero_add _)

/-- The second mixer's block is the same rows of its array. -/
theorem blk_2 (c : Dev nD) (t : Fin cfg0.N) (r : Fin 512) (k : Fin 512) :
    (iblk m c 2 t : Vec Ideal S512x512 .bf16) (ix2 r k) = m ((c : Thread nD τ).loc main_arg2) (ix2 (row t r) k) := by
  blk_ext [iblk, V_main_arg2, row]
  · exact (Window.rect_emb_val_off win0_2 t (ix2 r k) 0).trans (by rw [(idx_in t).2.2.1]; rfl)
  · exact (Window.rect_emb_val_off win0_2 t (ix2 r k) 1).trans (by rw [(idx_in t).2.2.1]; exact Nat.zero_add _)

/-- The projection's block is layer 1 of the cast projection. -/
theorem blk_3 (c : Dev nD) (t : Fin cfg0.N) (k j : Fin 1024) :
    (iblk m c 3 t : Vec Ideal S1x1024x1024 .bf16) (ix3 0 k j) = m ((c : Thread nD τ).loc main_arg6) (ix3 1 k j) := by
  blk_point [iblk, idx_in t]

/-! The norm rows' blocks are rows 3, 4 and 5 of layer 1's norm weights. -/

theorem blk_4 (c : Dev nD) (t : Fin cfg0.N) (k : Fin 1024) :
    (iblk m c 4 t : Vec Ideal S1x1x1024 .f32) (ix3 0 0 k) = m ((c : Thread nD τ).loc main_arg3) (ix3 1 3 k) := by
  blk_point [iblk, idx_in t]

theorem blk_5 (c : Dev nD) (t : Fin cfg0.N) (k : Fin 1024) :
    (iblk m c 5 t : Vec Ideal S1x1x1024 .f32) (ix3 0 0 k) = m ((c : Thread nD τ).loc main_arg3) (ix3 1 4 k) := by
  blk_point [iblk, idx_in t]

theorem blk_8 (c : Dev nD) (t : Fin cfg0.N) (k : Fin 1024) :
    (iblk m c 8 t : Vec Ideal S1x1x1024 .f32) (ix3 0 0 k) = m ((c : Thread nD τ).loc main_arg3) (ix3 1 5 k) := by
  blk_point [iblk, idx_in t]

/-- A loading point's tile of the first weight. -/
theorem blk_6 (c : Dev nD) (t : Fin cfg0.N) (ht : t.val < 8) (r : Fin 128) (q : Fin 5632) :
    (iblk m c 6 t : Vec Ideal S1x128x5632 .f32) (ix3 0 r q)
      = m ((c : Thread nD τ).loc main_arg4) (ix3 1 ⟨t.val * 128 + r.val, by omega⟩ q) := by
  blk_ext [iblk, V_main_arg4, idx_in t]

/-- A loading point's tile of the second weight. -/
theorem blk_7 (c : Dev nD) (t : Fin cfg0.N) (ht : t.val < 8) (r : Fin 352) (k : Fin 1024) :
    (iblk m c 7 t : Vec Ideal S1x352x1024 .f32) (ix3 0 r k)
      = m ((c : Thread nD τ).loc main_arg5) (ix3 1 ⟨t.val * 352 + r.val, by omega⟩ k) := by
  blk_ext [iblk, V_main_arg5, idx_in t]

/-- The cast of a tile of the first weight, at an index. -/
theorem pay1_apply (x : Vec Ideal S1x128x5632 .f32) (r : Fin 128) (q : Fin 5632) : k0_pay1 x (ix2 r q) = x (ix3 0 r q) := by
  pointwise [k0_pay1]

/-- The cast of a tile of the second weight, at an index. -/
theorem pay2_apply (x : Vec Ideal S1x352x1024 .f32) (r : Fin 352) (k : Fin 1024) : k0_pay2 x (ix2 r k) = x (ix3 0 r k) := by
  pointwise [k0_pay2]

/-- The first scratch, filled, is layer 1 of the first weight. -/
theorem castIn_apply (c : Dev nD) (k : Fin 1024) (q : Fin 5632) :
    castIn m c (ix2 k q) = m ((c : Thread nD τ).loc main_arg4) (ix3 1 k q) := by
  refine (pay1_apply _ ⟨k.val % 128, Nat.mod_lt _ (by decide)⟩ q).trans
    ((blk_6 m c _ (Nat.div_lt_of_lt_mul k.isLt) _ q).trans ?_)
  congr 2
  exact Fin.ext (Nat.div_add_mod' _ _)

/-- The second scratch, filled, is layer 1 of the second weight. -/
theorem castOut_apply (c : Dev nD) (q : Fin 2816) (k : Fin 1024) :
    castOut m c (ix2 q k) = m ((c : Thread nD τ).loc main_arg5) (ix3 1 q k) := by
  refine (pay2_apply _ ⟨q.val % 352, Nat.mod_lt _ (by decide)⟩ k).trans
    ((blk_7 m c _ (Nat.div_lt_of_lt_mul q.isLt) _ k).trans ?_)
  congr 2
  exact Fin.ext (Nat.div_add_mod' _ _)

/-! ### The result -/

/-- The row of the padded arrays that row `r` of the result is computed from. -/
def src (r : Fin 16384) : Fin 16896 := ⟨r.val / 2048 * 2112 + (16 + r.val % 2048), by omega⟩

/-- The call's result as a function of its arguments: each row the feed-forward layer of its mixed row. -/
def result (c : Dev nD) : Vec Ideal S16384x1024 .f32 := fun i =>
  Row.ffn (Row.mix (fun k => m ((c : Thread nD τ).loc main_arg0) (ix2 (src (i 0)) k))
      (fun k => m ((c : Thread nD τ).loc main_arg1) (ix2 (src (i 0)) k))
      (fun k => m ((c : Thread nD τ).loc main_arg2) (ix2 (src (i 0)) k))
      (fun k j => m ((c : Thread nD τ).loc main_arg6) (ix3 1 k j)) (fun k => m ((c : Thread nD τ).loc main_arg3) (ix3 1 3 k)))
    (fun k => m ((c : Thread nD τ).loc main_arg3) (ix3 1 4 k)) (fun k => m ((c : Thread nD τ).loc main_arg3) (ix3 1 5 k))
    (fun k q => m ((c : Thread nD τ).loc main_arg4) (ix3 1 k q)) (fun q k => m ((c : Thread nD τ).loc main_arg5) (ix3 1 q k))
    (i 1)

/-- A working point's block is the result's block of that point. -/
theorem outBlock_apply (c : Dev nD) (t : Fin cfg0.N) (ht : 8 ≤ t.val) (r : Fin 512) (j : Fin 1024) (i : S16384x1024.Idx)
    (h0 : (i 0).val = (t.val - 8) * 512 + r.val) (h1 : (i 1).val = j.val) :
    outBlock m c t (ix2 r j) = result m c i := by
  have hs : src (i 0) = row t r := Fin.ext (by
    show (i 0).val / 2048 * 2112 + (16 + (i 0).val % 2048) = (t.val - 8) / 4 * 2112 + 16 + (t.val - 8) % 4 * 512 + r.val
    have := r.isLt
    omega)
  have hj : i 1 = j := Fin.ext h1
  unfold outBlock result
  rw [if_neg (by omega), blockOut_apply, hs, hj]
  simp only [blk_0, blk_1, blk_2, blk_3, blk_4, blk_5, blk_8, castIn_apply, castOut_apply]

theorem flush_iff : ∀ t : Fin cfg0.N, (cfg0.win 9).flush t = true → 8 ≤ t.val := by decide +kernel

/-- After the run the result's array holds `result`. -/
theorem result_eq (c : Dev nD) : (dats m 0 c).arrAt 9 cfg0.N = result m c := by
  refine (dats m 0 c).arrAt_eq_of_covers 9 _ (by decide +kernel) fun t hf y => ?_
  rw [after_9]
  have hy : (outBlock m c t : S512x1024.Idx → Ideal .f32) y = outBlock m c t (ix2 (y 0) (y 1)) :=
    congrArg _ (funext fun a => by fin_cases a <;> rfl)
  refine hy.trans (outBlock_apply m c t (flush_iff t hf) (y 0) (y 1) _ ?_ ?_)
  · exact (Window.rect_emb_val win0_9 t y 0).trans (by rw [(idx_in t).2.2.2.2.2.2.2.2.2]; rfl)
  · exact (Window.rect_emb_val win0_9 t y 1).trans (by rw [(idx_in t).2.2.2.2.2.2.2.2.2]; exact Nat.zero_add _)

end Cert.KernelIdeal.Mix
-- ==== Proof.Mix.Ref.lean ====
module

public import proofs.«01_k».proof.Proof.Gen.ReferenceIdeal.Read
public import proofs.«01_k».proof.Proof.Mix.Row

/-! What the reference of the last feed-forward call computes, row by row, over the extended reals. -/

@[expose] public section

set_option maxRecDepth 16384

noncomputable section

namespace Cert.ReferenceIdeal.Mix

open Idealize.ShloMosaic
open Cert.ReferenceIdeal Cert.ReferenceIdeal.Read

variable (x0 : Vec Ideal S16896x1024 .f32) (x1 x2 : Vec Ideal S16896x512 .bf16) (x3 : Vec Ideal S2x6x1024 .f32)
  (x4 : Vec Ideal S2x1024x5632 .f32) (x5 : Vec Ideal S2x2816x1024 .f32) (x6 : Vec Ideal S2x1024x1024 .f32)

/-- The row of the padded arrays that holds position `p` of sequence `b`. -/
def pos (b : Fin 8) (p : Fin 2064) : Fin 16896 := ⟨b.val * 2112 + p.val, by omega⟩

/-- The residual row after the mixers' projection. -/
def hrow (b : Fin 8) (p : Fin 2064) : Fin 1024 → EReal :=
  Row.mix (fun k => x0 (ix2 (pos b p) k)) (fun k => x1 (ix2 (pos b p) k)) (fun k => x2 (ix2 (pos b p) k))
    (fun k j => x6 (ix3 1 k j)) (fun k => x3 (ix3 1 3 k))

/-- The concatenated mixers' rows, in the left half. -/
theorem v10_left (b : Fin 8) (p : Fin 2064) (k : Fin 512) :
    val_main_v10 (F := Ideal) x1 x2 (ix3 b p ⟨k.val, Nat.lt_of_lt_of_le k.isLt (by decide)⟩) = x1 (ix2 (pos b p) k) := by
  pointwise [val_main_v10, val_main_v6, val_main_v5, val_main_v4]
  rfl

/-- The concatenated mixers' rows, in the right half. -/
theorem v10_right (b : Fin 8) (p : Fin 2064) (k : Fin 512) :
    val_main_v10 (F := Ideal) x1 x2 (ix3 b p ⟨512 + k.val, Nat.add_lt_add_left k.isLt 512⟩) = x2 (ix2 (pos b p) k) := by
  pointwise [val_main_v10, val_main_v9, val_main_v8, val_main_v7]
  rfl

/-- The mixers' rows times the output projection. -/
theorem v13_apply (b : Fin 8) (p : Fin 2064) (j : Fin 1024) :
    val_main_v13 (F := Ideal) x1 x2 x6 (ix3 b p j) = Row.proj (fun k => x1 (ix2 (pos b p) k))
      (fun k => x2 (ix2 (pos b p) k)) (fun k j => x6 (ix3 1 k j)) j := by
  pointwise [val_main_v13, val_main_v12, val_main_v11]
  rw [Row.sum_halves]
  simp only [v10_left, v10_right]
  rfl

/-- The residual row plus the normalised projection. -/
theorem v29_apply (b : Fin 8) (p : Fin 2064) (j : Fin 1024) :
    val_main_v29 (F := Ideal) x0 x1 x2 x3 x6 (ix3 b p j) = hrow x0 x1 x2 x3 x6 b p j := by
  pointwise [val_main_v29, val_main_v28, val_main_v27, val_main_v26, val_main_v25, val_main_v24, val_main_v23, val_main_v22,
    val_main_v21, val_main_v20, val_main_v19, val_main_v18, val_main_v17, val_main_v16, val_main_v15, val_main_v14,
    val_main_v3, val_main_v2, val_main_v1, val_main_v0, val_main_cst, val_main_cst_0, val_main_cst_1, v13_apply]
  rfl

/-- That row, normalised for the feed-forward layer. -/
theorem v44_apply (b : Fin 8) (p : Fin 2064) (j : Fin 1024) :
    val_main_v44 (F := Ideal) x0 x1 x2 x3 x6 (ix3 b p j)
      = Row.rms (hrow x0 x1 x2 x3 x6 b p) (fun k => x3 (ix3 1 4 k)) j := by
  pointwise [val_main_v44, val_main_v43, val_main_v42, val_main_v41, val_main_v40, val_main_v39, val_main_v38, val_main_v37,
    val_main_v36, val_main_v35, val_main_v34, val_main_v33, val_main_v32, val_main_v31, val_main_v30, val_main_v1,
    val_main_v0, val_main_cst_2, val_main_cst_3, val_main_cst_4, v29_apply]
  rfl

/-- The hidden row's left half. -/
theorem v50_apply (b : Fin 8) (p : Fin 2064) (q : Fin 2816) :
    val_main_v50 (F := Ideal) x0 x1 x2 x3 x4 x6 (ix3 b p q)
      = Row.gate (Row.rms (hrow x0 x1 x2 x3 x6 b p) (fun k => x3 (ix3 1 4 k))) (fun k j => x4 (ix3 1 k j)) q := by
  pointwise [val_main_v50, val_main_v49, val_main_v46, val_main_v45, v44_apply]
  rfl

/-- The hidden row's right half. -/
theorem v51_apply (b : Fin 8) (p : Fin 2064) (q : Fin 2816) :
    val_main_v51 (F := Ideal) x0 x1 x2 x3 x4 x6 (ix3 b p q)
      = Row.up (Row.rms (hrow x0 x1 x2 x3 x6 b p) (fun k => x3 (ix3 1 4 k))) (fun k j => x4 (ix3 1 k j)) q := by
  pointwise [val_main_v51, val_main_v49, val_main_v46, val_main_v45, v44_apply]
  rfl

/-- The logistic function of the left half, as the reference writes it out. -/
theorem sig_apply (b : Fin 8) (p : Fin 2064) (q : Fin 2816) :
    val_main_call0_v5 (F := Ideal) x0 x1 x2 x3 x4 x6 (ix3 b p q)
      = Ideal.logistic (val_main_v50 (F := Ideal) x0 x1 x2 x3 x4 x6 (ix3 b p q)) := by
  pointwise [val_main_call0_v5, val_main_call0_v4, val_main_call0_v3, val_main_call0_v2, val_main_call0_v1,
    val_main_call0_v0, val_main_call0_cst, val_main_call0_cst_0]
  rfl

/-- The feed-forward layer's row before its norm. -/
theorem v54_apply (b : Fin 8) (p : Fin 2064) (j : Fin 1024) :
    val_main_v54 (F := Ideal) x0 x1 x2 x3 x4 x5 x6 (ix3 b p j)
      = Row.swiglu (Row.rms (hrow x0 x1 x2 x3 x6 b p) (fun k => x3 (ix3 1 4 k))) (fun k j => x4 (ix3 1 k j))
          (fun k j => x5 (ix3 1 k j)) j := by
  pointwise [val_main_v54, val_main_v53, val_main_v52, val_main_v48, val_main_v47]
  simp only [sig_apply, v50_apply, v51_apply]
  rfl

/-- The layer's row: half the normalised feed-forward value added. -/
theorem v72_apply (b : Fin 8) (p : Fin 2064) (j : Fin 1024) :
    val_main_v72 (F := Ideal) x0 x1 x2 x3 x4 x5 x6 (ix3 b p j)
      = Row.ffn (hrow x0 x1 x2 x3 x6 b p) (fun k => x3 (ix3 1 4 k)) (fun k => x3 (ix3 1 5 k)) (fun k j => x4 (ix3 1 k j))
          (fun k j => x5 (ix3 1 k j)) j := by
  pointwise [val_main_v72, val_main_v71, val_main_v70, val_main_v69, val_main_v68, val_main_v67, val_main_v66, val_main_v65,
    val_main_v64, val_main_v63, val_main_v62, val_main_v61, val_main_v60, val_main_v59, val_main_v58, val_main_v57,
    val_main_v56, val_main_v55, val_main_v1, val_main_v0, val_main_cst_5, val_main_cst_6, val_main_cst_7, val_main_cst_8,
    v29_apply, v54_apply]
  rfl

/-- The result's row `r` is the layer's row of position `r % 2048 + 16` of sequence `r / 2048`. -/
theorem v74_apply (r : Fin 16384) (j : Fin 1024) :
    val_main_v74 (F := Ideal) x0 x1 x2 x3 x4 x5 x6 (ix2 r j)
      = val_main_v72 (F := Ideal) x0 x1 x2 x3 x4 x5 x6
          (ix3 ⟨r.val / 2048, by omega⟩ ⟨16 + r.val % 2048, by omega⟩ j) := by
  pointwise [val_main_v74, val_main_v73]

end Cert.ReferenceIdeal.Mix
-- ==== Proof.Mix.Agree.lean ====
module

public import proofs.«01_k».proof.Defs
public import proofs.«01_k».proof.Proof.Mix.Value
public import proofs.«01_k».proof.Proof.Mix.Ref
public import proofs.«01_k».proof.Proof.Gen.Kernel

/-! The last feed-forward call and its reference leave one result from the same arguments. -/

@[expose] public section

set_option maxRecDepth 16384

noncomputable section

namespace Cert.Mix

open Idealize.ShloMosaic Idealize.SL.Sem

/-- The reference's result, on the arguments the kernel reads, is the kernel's. -/
theorem ref_result (m : (ℓ : Loc KernelIdeal.nD KernelIdeal.τ KernelIdeal.sig) → Buf (Elt Ideal) ℓ) (c : Dev KernelIdeal.nD) :
    ReferenceIdeal.Read.val_main_v74 (F := Ideal) (m ((c.tc : Thread KernelIdeal.nD KernelIdeal.τ).loc KernelIdeal.main_arg0))
      (m ((c.tc : Thread KernelIdeal.nD KernelIdeal.τ).loc KernelIdeal.main_arg1))
      (m ((c.tc : Thread KernelIdeal.nD KernelIdeal.τ).loc KernelIdeal.main_arg2))
      (m ((c.tc : Thread KernelIdeal.nD KernelIdeal.τ).loc KernelIdeal.main_arg3))
      (m ((c.tc : Thread KernelIdeal.nD KernelIdeal.τ).loc KernelIdeal.main_arg4))
      (m ((c.tc : Thread KernelIdeal.nD KernelIdeal.τ).loc KernelIdeal.main_arg5))
      (m ((c.tc : Thread KernelIdeal.nD KernelIdeal.τ).loc KernelIdeal.main_arg6))
      = KernelIdeal.Mix.result m c := by
  funext i
  rw [show i = ix2 (i 0) (i 1) from funext fun a => by fin_cases a <;> rfl]
  exact (ReferenceIdeal.Mix.v74_apply _ _ _ _ _ _ _ (i 0) (i 1)).trans (ReferenceIdeal.Mix.v72_apply _ _ _ _ _ _ _ _ _ _)

/-- From the same arguments the kernel and the reference end with the same result, over the extended reals. -/
theorem algebraic [hKernelIdeal : KernelIdeal.Facts] [hReferenceIdeal : ReferenceIdeal.Facts] :
    algebraic_KernelIdeal_ReferenceIdeal := fun m g m' g' _ hin =>
  ⟨KernelIdeal.Mix.result m,
    (θ_run _ _ _).mono (fun r h c => ⟨(h.1 c).trans (KernelIdeal.Mix.result_eq m c), h.2.1 c⟩)
      (θ_run_and (KernelIdeal.Mix.result_run m g) (KernelIdeal.Mix.frame m g)),
    (θ_run _ _ _).mono (fun r h c => ⟨by
        obtain ⟨h0, h1, h2, h3, h4, h5, h6⟩ := hin c
        have hr := ref_result m c
        rw [← h0, ← h1, ← h2, ← h3, ← h4, ← h5, ← h6] at hr
        exact (h c).1.trans ((ReferenceIdeal.Read.val_main_v74_eq _).trans hr), (h c).2⟩)
      (ReferenceIdeal.Value.run m' g')⟩

/-- Every run of the reference ends with the arguments as they were and the counters, of which it has none, at zero. -/
theorem frame_ref [hReferenceIdeal : ReferenceIdeal.Facts] : quiescent_ReferenceIdeal := fun m ρ _ =>
  (θ_run _ _ _).mono (fun r h => ⟨fun c => (h c).2, sem_eq_zero_of_no_sems (by decide) r.2⟩)
    (ReferenceIdeal.Value.run m ρ)

/-- The kernel's program is the ideal kernel's, read at any memory. -/
theorem same_program (m : (ℓ : Loc Kernel.nD Kernel.τ Kernel.sig) → Buf (Elt Bits) ℓ) (ρ : Dev Kernel.nD → PrngReg) :
    θ_run (Kernel.defs (F := Bits)) (onTc (τ := Kernel.τ) (Kernel.main (F := Bits))) ⟨m, fun _ => 0, ρ⟩
      = θ_run (KernelIdeal.defs (F := Bits)) (onTc (τ := KernelIdeal.τ) (KernelIdeal.main (F := Bits))) ⟨m, fun _ => 0, ρ⟩ := by
  sl_kernel_rfl

/-- Every run of the kernel, at the machine's floats, ends with the arguments as they were and the counters at zero. -/
theorem frame_kernel : quiescent_Kernel (hKernel := Kernel.Gen.facts) := fun m ρ _ => by
  rw [same_program]
  exact KernelIdeal.Mix.frame (F := Bits) m ρ

end Cert.Mix
-- ==== Proof.Mix0.Body.lean ====
module

public import proofs.«01_k».proof.Proof.Gen.KernelMix0Ideal.Skeleton
public import proofs.«01_k».proof.Proof.Gen.KernelMix0Ideal.Frame
public import proofs.«01_k».proof.Proof.Tiles
public import Idealize.ShloMosaic.Lib.Claim

/-! The kernel body of the first layer's second feed-forward call, run once per case of its conditionals. -/

@[expose] public section

set_option maxRecDepth 16384

noncomputable section

namespace Cert.KernelMix0Ideal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelMix0Ideal.Gen Cert.Tiles

variable {F : FTy → Type} [FloatOps F]

local notation "𝕄" => MT nD τ sig Unit (Elt F) ℕ (UR sig nD τ) ℕ

/-- The upper half of the rows of the projection's layer block. -/
def upper (x : Vec F S1x1024x1024 .bf16) : Vec F S1x512x1024 .bf16 :=
  View.ld x (Rect.unit (s := S1x1024x1024) ![0, 0, 0] S1x512x1024.size inb_S1x1024x1024_S1x512x1024_0_0_0)

/-- The lower half of the rows of the projection's layer block. -/
def lower (x : Vec F S1x1024x1024 .bf16) : Vec F S1x512x1024 .bf16 :=
  View.ld x (Rect.unit (s := S1x1024x1024) ![0, 512, 0] S1x512x1024.size inb_S1x1024x1024_S1x512x1024_0_512_0)

/-- What a working point leaves in the output block: of the residual block, the two mixers' blocks, the projection, the
three norm rows and the two cast weights. -/
def blockOut (x0 : Vec F S688x1024 .f32) (x1 x2 : Vec F S688x512 .bf16) (x3 : Vec F S1x1024x1024 .bf16)
    (x4 x5 x8 : Vec F S1x1x1024 .f32) (s0 : Vec F S1024x5632 .bf16) (s1 : Vec F S2816x1024 .bf16) :
    Vec F S688x1024 .f32 :=
  k0_pay3 (k0_pay4 x0 x1 (upper x3) x2 (lower x3) x4) (k0_pay5 x5)
    (k0_pay6 x0 x1 (upper x3) x2 (lower x3) x4) s0 s1 x8

set_option maxHeartbeats 1000000 in
/-- At a loading point the body casts its two weight tiles into the rows of the two scratches that are theirs, and
copies the residual block to the output block. -/
theorem run_load (c : Dev nD) (i : grid0.Coords)
    (arg1 : Memref sig .tc .vmem S688x1024 .f32) (harg1 : arg1.IsWhole)
    (arg2 : Memref sig .tc .vmem S688x512 .bf16) (harg2 : arg2.IsWhole)
    (arg3 : Memref sig .tc .vmem S688x512 .bf16) (harg3 : arg3.IsWhole)
    (arg4 : Memref sig .tc .vmem S1x1024x1024 .bf16) (harg4 : arg4.IsWhole)
    (arg5 : Memref sig .tc .vmem S1x1x1024 .f32) (harg5 : arg5.IsWhole)
    (arg6 : Memref sig .tc .vmem S1x1x1024 .f32) (harg6 : arg6.IsWhole)
    (arg7 : Memref sig .tc .vmem S1x128x5632 .f32) (harg7 : arg7.IsWhole)
    (arg8 : Memref sig .tc .vmem S1x352x1024 .f32) (harg8 : arg8.IsWhole)
    (arg9 : Memref sig .tc .vmem S1x1x1024 .f32) (harg9 : arg9.IsWhole)
    (arg10 : Memref sig .tc .vmem S688x1024 .f32) (harg10 : arg10.IsWhole)
    (arg11 : Memref sig .tc .vmem S1024x5632 .bf16) (harg11 : arg11.IsWhole)
    (arg12 : Memref sig .tc .vmem S2816x1024 .bf16) (harg12 : arg12.IsWhole)
    (h1 : k0_cond1 i = 1#1) (h2 : ¬ k0_cond2 i = 1#1) {o1 o2 : ℕ} (ho1 : k0_off1 i = ![o1, 0]) (ho2 : k0_off2 i = ![o2, 0])
    (x0 : Vec F S688x1024 .f32) (x1 : Vec F S688x512 .bf16) (x2 : Vec F S688x512 .bf16) (x3 : Vec F S1x1024x1024 .bf16) (x4 : Vec F S1x1x1024 .f32) (x5 : Vec F S1x1x1024 .f32) (x6 : Vec F S1x128x5632 .f32) (x7 : Vec F S1x352x1024 .f32) (x8 : Vec F S1x1x1024 .f32)
    (s0 : Vec F S1024x5632 .bf16) (s1 : Vec F S2816x1024 .bf16)
    (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8 ∗ (∃ d, owns (c : Thread nD τ) arg10 fullShare d)
        ∗ owns (c : Thread nD τ) arg11 fullShare s0 ∗ owns (c : Thread nD τ) arg12 fullShare s1
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8 ∗ owns (c : Thread nD τ) arg10 fullShare x0
            ∗ (∃ d, ⌜RowsPut o1 (k0_pay1 x6) s0 d⌝ ∗ owns (c : Thread nD τ) arg11 fullShare d)
            ∗ (∃ d, ⌜RowsPut o2 (k0_pay2 x7) s1 d⌝ ∗ owns (c : Thread nD τ) arg12 fullShare d)) -∗ K ⟨⟩))
      ⊢ wp frame (wpE (defs₀ (F := F)) Variants.none c none) E (cc0_ffn_mix i arg1 harg1 arg2 harg2 arg3 harg3 arg4 harg4 arg5 harg5 arg6 harg6 arg7 harg7 arg8 harg8 arg9 harg9 arg10 harg10 arg11 harg11 arg12 harg12) K := by
  simp only [cc0_ffn_mix_eq_skeleton]; unfold cc0_ffn_mix_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%dO, %fO, -, HO⟩, ⟨%g0, %hg0, HS0⟩, ⟨%g1, %hg1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  obtain rfl := harg11.eq_unread hg0; obtain rfl := harg12.eq_unread hg1
  sl_exec (disch := first | sl_exact h1 | sl_exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [HO]
  · iexists _; isplitr; swap; · iexact HO
    ipureintro
    rw [View.read_writes_full arg10.view fO inb_S688x1024_S688x1024_0_0, load_all harg1 x0 off2]
  isplitl [HS0]
  · iexists _; isplitr; swap
    · iexists _; isplitr; swap; · iexact HS0
      ipureintro; rfl
    ipureintro
    constructor
    · intro x y hx hy
      rw [load_all harg7 x6 off3]
      exact View.read_writes_cons_rows_of_mem _ _ _ _ _ y x ho1 hx hy
    · intro y hy
      rw [View.read_writes_cons_rows_of_not_mem _ _ _ _ _ y ho1 rfl hy, View.writes_nil, harg11.read_unread]
  iexists _; isplitr; swap
  · iexists _; isplitr; swap; · iexact HS1
    ipureintro; rfl
  ipureintro
  constructor
  · intro x y hx hy
    rw [load_all harg8 x7 off3]
    exact View.read_writes_cons_rows_of_mem _ _ _ _ _ y x ho2 hx hy
  · intro y hy
    rw [View.read_writes_cons_rows_of_not_mem _ _ _ _ _ y ho2 rfl hy, View.writes_nil, harg12.read_unread]

set_option maxHeartbeats 1000000 in
/-- At a working point the body leaves `blockOut` of its blocks and of the scratches in the output block. -/
theorem run_work (c : Dev nD) (i : grid0.Coords)
    (arg1 : Memref sig .tc .vmem S688x1024 .f32) (harg1 : arg1.IsWhole)
    (arg2 : Memref sig .tc .vmem S688x512 .bf16) (harg2 : arg2.IsWhole)
    (arg3 : Memref sig .tc .vmem S688x512 .bf16) (harg3 : arg3.IsWhole)
    (arg4 : Memref sig .tc .vmem S1x1024x1024 .bf16) (harg4 : arg4.IsWhole)
    (arg5 : Memref sig .tc .vmem S1x1x1024 .f32) (harg5 : arg5.IsWhole)
    (arg6 : Memref sig .tc .vmem S1x1x1024 .f32) (harg6 : arg6.IsWhole)
    (arg7 : Memref sig .tc .vmem S1x128x5632 .f32) (harg7 : arg7.IsWhole)
    (arg8 : Memref sig .tc .vmem S1x352x1024 .f32) (harg8 : arg8.IsWhole)
    (arg9 : Memref sig .tc .vmem S1x1x1024 .f32) (harg9 : arg9.IsWhole)
    (arg10 : Memref sig .tc .vmem S688x1024 .f32) (harg10 : arg10.IsWhole)
    (arg11 : Memref sig .tc .vmem S1024x5632 .bf16) (harg11 : arg11.IsWhole)
    (arg12 : Memref sig .tc .vmem S2816x1024 .bf16) (harg12 : arg12.IsWhole)
    (h1 : ¬ k0_cond1 i = 1#1) (h2 : k0_cond2 i = 1#1)
    (x0 : Vec F S688x1024 .f32) (x1 : Vec F S688x512 .bf16) (x2 : Vec F S688x512 .bf16) (x3 : Vec F S1x1024x1024 .bf16) (x4 : Vec F S1x1x1024 .f32) (x5 : Vec F S1x1x1024 .f32) (x6 : Vec F S1x128x5632 .f32) (x7 : Vec F S1x352x1024 .f32) (x8 : Vec F S1x1x1024 .f32)
    (s0 : Vec F S1024x5632 .bf16) (s1 : Vec F S2816x1024 .bf16)
    (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8 ∗ (∃ d, owns (c : Thread nD τ) arg10 fullShare d)
        ∗ owns (c : Thread nD τ) arg11 fullShare s0 ∗ owns (c : Thread nD τ) arg12 fullShare s1
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8 ∗ owns (c : Thread nD τ) arg10 fullShare (blockOut x0 x1 x2 x3 x4 x5 x8 s0 s1)
            ∗ owns (c : Thread nD τ) arg11 fullShare s0 ∗ owns (c : Thread nD τ) arg12 fullShare s1) -∗ K ⟨⟩))
      ⊢ wp frame (wpE (defs₀ (F := F)) Variants.none c none) E (cc0_ffn_mix i arg1 harg1 arg2 harg2 arg3 harg3 arg4 harg4 arg5 harg5 arg6 harg6 arg7 harg7 arg8 harg8 arg9 harg9 arg10 harg10 arg11 harg11 arg12 harg12) K := by
  simp only [cc0_ffn_mix_eq_skeleton]; unfold cc0_ffn_mix_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%dO, %fO, -, HO⟩, ⟨%g0, %hg0, HS0⟩, ⟨%g1, %hg1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  obtain rfl := harg11.eq_unread hg0; obtain rfl := harg12.eq_unread hg1
  sl_exec (disch := first | sl_exact h1 | sl_exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [HO]
  · iexists _; isplitr; swap; · iexact HO
    ipureintro
    rw [View.read_writes_full arg10.view fO inb_S688x1024_S688x1024_0_0]
    sl_unfold_words
    rw [load_all harg11 s0 off2, load_all harg12 s1 off2, load_all harg9 x8 off3, load_all harg1 x0 off2,
      load_all harg2 x1 off2, load_all harg3 x2 off2, load_all harg5 x4 off3, load_all harg6 x5 off3]
    simp only [View.readAt_eq_ld, harg4.read_unread]
    rfl
  isplitl [HS0]
  · iexists _; isplitr; · ipureintro; exact harg11.read_unread _
    iexact HS0
  iexists _; isplitr; · ipureintro; exact harg12.read_unread _
  iexact HS1

end Cert.KernelMix0Ideal.Mix

end
-- ==== Proof.Mix0.Run.lean ====
module

public import proofs.«01_k».proof.Proof.Mix0.Body

/-! The run of the first layer's second feed-forward call over any element semantics: the two scratches fill with the cast weights at
the loading points, and every working point leaves its block of the result. -/

@[expose] public section

set_option maxRecDepth 16384

noncomputable section

namespace Cert.KernelMix0Ideal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelMix0Ideal.Gen Cert.Tiles

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point whose tile holds row `r` of a weight that comes in tiles of `W` rows. -/
abbrev tilePt (R W r : ℕ) (hr : r < R) (hR : R = W * 8) : Fin cfg0.N :=
  ⟨r / W, by rw [show cfg0.N = 32 from N_0]; have := Nat.div_lt_of_lt_mul (hR ▸ hr); omega⟩

/-- The first weight, cast, row by row from the tiles of the loading points. -/
def castIn (c : Dev nD) : Vec F S1024x5632 .bf16 := fun y =>
  k0_pay1 (iblk m c 6 (tilePt 1024 128 (y 0).val (y 0).isLt rfl))
    (ix2 (⟨(y 0).val % 128, Nat.mod_lt _ (by decide)⟩ : Fin 128) (y 1))

/-- The second weight, cast, row by row from the tiles of the loading points. -/
def castOut (c : Dev nD) : Vec F S2816x1024 .bf16 := fun y =>
  k0_pay2 (iblk m c 7 (tilePt 2816 352 (y 0).val (y 0).isLt rfl))
    (ix2 (⟨(y 0).val % 352, Nat.mod_lt _ (by decide)⟩ : Fin 352) (y 1))

/-- After `n` points the first `n` tiles' rows of the scratches hold the cast weights. -/
def Filled (c : Dev nD) (n : ℕ) (s0 : Vec F S1024x5632 .bf16) (s1 : Vec F S2816x1024 .bf16) : Prop :=
  (∀ y : S1024x5632.Idx, (y 0).val < 128 * n → s0 y = castIn m c y)
    ∧ ∀ y : S2816x1024.Idx, (y 0).val < 352 * n → s1 y = castOut m c y

theorem filled_zero (c : Dev nD) (s0 : Vec F S1024x5632 .bf16) (s1 : Vec F S2816x1024 .bf16) : Filled m c 0 s0 s1 :=
  ⟨fun _ h => absurd h (by omega), fun _ h => absurd h (by omega)⟩

theorem filled_succ (c : Dev nD) (t : Fin cfg0.N) (s0 d0 : Vec F S1024x5632 .bf16) (s1 d1 : Vec F S2816x1024 .bf16)
    (h : Filled m c t.val s0 s1) (h0 : RowsPut (128 * t.val) (k0_pay1 (iblk m c 6 t)) s0 d0)
    (h1 : RowsPut (352 * t.val) (k0_pay2 (iblk m c 7 t)) s1 d1) : Filled m c (t.val + 1) d0 d1 := by
  refine ⟨fill_step (by decide) t.val _ (castIn m c) s0 d0 h0 h.1 ?_,
    fill_step (by decide) t.val _ (castOut m c) s1 d1 h1 h.2 ?_⟩
  · intro y hy
    unfold castIn
    rw [show tilePt 1024 128 (y 0).val (y 0).isLt rfl = t from Fin.ext hy]
  · intro y hy
    unfold castOut
    rw [show tilePt 2816 352 (y 0).val (y 0).isLt rfl = t from Fin.ext hy]

/-- From the eighth point on the scratches hold the cast weights whole. -/
theorem filled_full (c : Dev nD) {n : ℕ} (hn : 8 ≤ n) (s0 : Vec F S1024x5632 .bf16) (s1 : Vec F S2816x1024 .bf16)
    (h : Filled m c n s0 s1) : s0 = castIn m c ∧ s1 = castOut m c := by
  constructor
  · funext y
    have : (y 0).val < 1024 := (y 0).isLt
    exact h.1 y (by omega)
  · funext y
    have : (y 0).val < 2816 := (y 0).isLt
    exact h.2 y (by omega)

theorem filled_of_full (c : Dev nD) (n : ℕ) : Filled m c n (castIn m c) (castOut m c) :=
  ⟨fun _ _ => rfl, fun _ _ => rfl⟩

/-- What the result's block holds after point `t`. -/
def outBlock (c : Dev nD) (t : Fin cfg0.N) : Vec F S688x1024 .f32 :=
  if t.val < 8 then iblk m c 0 t
  else blockOut (iblk m c 0 t) (iblk m c 1 t) (iblk m c 2 t) (iblk m c 3 t) (iblk m c 4 t) (iblk m c 5 t) (iblk m c 8 t)
    (castIn m c) (castOut m c)

/-- The scratches before point `n`: filled as far as the points before have loaded. -/
def inv (c : Dev nD) (n : ℕ) : sProp 𝕄 :=
  iprop(∃ s0 s1, ⌜Filled m c n s0 s1⌝ ∗ owns (c : Thread nD τ) (Memref.whole cc0_scratch0) fullShare s0
    ∗ owns (c : Thread nD τ) (Memref.whole cc0_scratch1) fullShare s1 ∗ (∃ r, prngReg c r))

/-- The data of the pipeline: every input's buffer at its block, the output's at `outBlock`, the scratches filling. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlock m c t
  Φ n := inv m c n.val
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = outBlock m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

abbrev stg0 (t : Fin cfg0.N) := win0_0.stage (cfg0.slots t 0)
abbrev stg1 (t : Fin cfg0.N) := win0_1.stage (cfg0.slots t 1)
abbrev stg2 (t : Fin cfg0.N) := win0_2.stage (cfg0.slots t 2)
abbrev stg3 (t : Fin cfg0.N) := win0_3.stage (cfg0.slots t 3)
abbrev stg4 (t : Fin cfg0.N) := win0_4.stage (cfg0.slots t 4)
abbrev stg5 (t : Fin cfg0.N) := win0_5.stage (cfg0.slots t 5)
abbrev stg6 (t : Fin cfg0.N) := win0_6.stage (cfg0.slots t 6)
abbrev stg7 (t : Fin cfg0.N) := win0_7.stage (cfg0.slots t 7)
abbrev stg8 (t : Fin cfg0.N) := win0_8.stage (cfg0.slots t 8)
abbrev stg9 (t : Fin cfg0.N) := win0_9.stage (cfg0.slots t 9)

/-- The output is stored at every point. -/
theorem idle_out : ∀ t : Fin cfg0.N, cfg0.idle 9 (cfg0.grid.coords t) = false :=
  (by decide +kernel : ∀ t : Fin grid0.N, idle0 9 (grid0.coords t) = false)

theorem leaves_0 (c : Dev nD) (t : Fin cfg0.N) :
    (dats m 0 c).leavesExact 0 t = owns (c : Thread nD τ) (stg0 t) fullShare (iblk m c 0 t) := by
  unfold Dat.leavesExact
  rw [show cfg0.idle 0 (cfg0.grid.coords t) = false from rfl, after_0]
theorem leaves_1 (c : Dev nD) (t : Fin cfg0.N) :
    (dats m 0 c).leavesExact 1 t = owns (c : Thread nD τ) (stg1 t) fullShare (iblk m c 1 t) := by
  unfold Dat.leavesExact
  rw [show cfg0.idle 1 (cfg0.grid.coords t) = false from rfl, after_1]
theorem leaves_2 (c : Dev nD) (t : Fin cfg0.N) :
    (dats m 0 c).leavesExact 2 t = owns (c : Thread nD τ) (stg2 t) fullShare (iblk m c 2 t) := by
  unfold Dat.leavesExact
  rw [show cfg0.idle 2 (cfg0.grid.coords t) = false from rfl, after_2]
theorem leaves_3 (c : Dev nD) (t : Fin cfg0.N) :
    (dats m 0 c).leavesExact 3 t = owns (c : Thread nD τ) (stg3 t) fullShare (iblk m c 3 t) := by
  unfold Dat.leavesExact
  rw [show cfg0.idle 3 (cfg0.grid.coords t) = false from rfl, after_3]
theorem leaves_4 (c : Dev nD) (t : Fin cfg0.N) :
    (dats m 0 c).leavesExact 4 t = owns (c : Thread nD τ) (stg4 t) fullShare (iblk m c 4 t) := by
  unfold Dat.leavesExact
  rw [show cfg0.idle 4 (cfg0.grid.coords t) = false from rfl, after_4]
theorem leaves_5 (c : Dev nD) (t : Fin cfg0.N) :
    (dats m 0 c).leavesExact 5 t = owns (c : Thread nD τ) (stg5 t) fullShare (iblk m c 5 t) := by
  unfold Dat.leavesExact
  rw [show cfg0.idle 5 (cfg0.grid.coords t) = false from rfl, after_5]
theorem leaves_6 (c : Dev nD) (t : Fin cfg0.N) :
    (dats m 0 c).leavesExact 6 t = owns (c : Thread nD τ) (stg6 t) fullShare (iblk m c 6 t) := by
  unfold Dat.leavesExact
  rw [show cfg0.idle 6 (cfg0.grid.coords t) = false from rfl, after_6]
theorem leaves_7 (c : Dev nD) (t : Fin cfg0.N) :
    (dats m 0 c).leavesExact 7 t = owns (c : Thread nD τ) (stg7 t) fullShare (iblk m c 7 t) := by
  unfold Dat.leavesExact
  rw [show cfg0.idle 7 (cfg0.grid.coords t) = false from rfl, after_7]
theorem leaves_8 (c : Dev nD) (t : Fin cfg0.N) :
    (dats m 0 c).leavesExact 8 t = owns (c : Thread nD τ) (stg8 t) fullShare (iblk m c 8 t) := by
  unfold Dat.leavesExact
  rw [show cfg0.idle 8 (cfg0.grid.coords t) = false from rfl, after_8]
theorem leaves_9 (c : Dev nD) (t : Fin cfg0.N) :
    (dats m 0 c).leavesExact 9 t = owns (c : Thread nD τ) (stg9 t) fullShare (outBlock m c t) := by
  unfold Dat.leavesExact
  rw [show cfg0.idle 9 (cfg0.grid.coords t) = false from idle_out t, after_9]

theorem load_iff : ∀ t : Fin cfg0.N, k0_cond1 (grid0.coords t) = 1#1 ↔ t.val < 8 :=
  (by decide +kernel : ∀ t : Fin grid0.N, k0_cond1 (grid0.coords t) = 1#1 ↔ t.val < 8)
theorem work_iff : ∀ t : Fin cfg0.N, k0_cond2 (grid0.coords t) = 1#1 ↔ 8 ≤ t.val :=
  (by decide +kernel : ∀ t : Fin grid0.N, k0_cond2 (grid0.coords t) = 1#1 ↔ 8 ≤ t.val)
theorem rows_in : ∀ t : Fin cfg0.N, k0_off1 (grid0.coords t) = ![128 * t.val, 0] :=
  (by decide +kernel : ∀ t : Fin grid0.N, k0_off1 (grid0.coords t) = ![128 * t.val, 0])
theorem rows_out : ∀ t : Fin cfg0.N, k0_off2 (grid0.coords t) = ![352 * t.val, 0] :=
  (by decide +kernel : ∀ t : Fin grid0.N, k0_off2 (grid0.coords t) = ![352 * t.val, 0])

/-- What the body is given at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d)))

/-- and what it gives back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 2400000 in
/-- The body at a point takes what it is given to what it gives back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, leaves_0, leaves_1, leaves_2, leaves_3, leaves_4, leaves_5, leaves_6, leaves_7, leaves_8, leaves_9]
  rw [show (dats m 0 c).owesAt () t.succ = (dats m 0 c).owesAt () t.castSucc from rfl,
    show (dats m 0 c).Φ t.castSucc = inv m c t.val from rfl, show (dats m 0 c).Φ t.succ = inv m c (t.val + 1) from rfl]
  unfold inv
  iintro ⟨⟨%s0, %s1, %hfill, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  by_cases h : t.val < 8
  · rw [show outBlock m c t = iblk m c 0 t from if_pos h]
    iapply ((run_load c (grid0.coords t) _ _ _ _ _ _ _ _ _ _ _ _ _ _ _ _ _ _ _ _ _ _ _ _ ((load_iff t).mpr h)
      (fun h' => absurd ((work_iff t).mp h') (by omega)) (rows_in t) (rows_out t) (iblk m c 0 t) (iblk m c 1 t) (iblk m c 2 t) (iblk m c 3 t) (iblk m c 4 t) (iblk m c 5 t) (iblk m c 6 t) (iblk m c 7 t) (iblk m c 8 t) s0 s1) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    iintro ⟨H0, H1, H2, H3, H4, H5, H6, H7, H8, H9, ⟨%e0, %he0, HS0⟩, ⟨%e1, %he1, HS1⟩⟩
    isplitl [HS0 HS1 Hg]
    · iexists e0, e1
      isplitr; · ipureintro; exact filled_succ m c t s0 e0 s1 e1 hfill he0 he1
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · obtain ⟨rfl, rfl⟩ := filled_full m c (by omega) s0 s1 hfill
    rw [show outBlock m c t = _ from if_neg h]
    iapply ((run_work c (grid0.coords t) _ _ _ _ _ _ _ _ _ _ _ _ _ _ _ _ _ _ _ _ _ _ _ _ (fun h' => h ((load_iff t).mp h'))
      ((work_iff t).mpr (by omega)) (iblk m c 0 t) (iblk m c 1 t) (iblk m c 2 t) (iblk m c 3 t) (iblk m c 4 t) (iblk m c 5 t) (iblk m c 6 t) (iblk m c 7 t) (iblk m c 8 t) (castIn m c) (castOut m c)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hg]
    · iexists (castIn m c), (castOut m c)
      isplitr; · ipureintro; exact filled_of_full m c _
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at the pipeline's label is the body. -/
theorem body_row (t : Fin cfg0.N) : defs₀ .tc cfg0.body (cfg0.bodyArgs t (cfg0.slots t)) = bodyAt0 (F := F) t := by
  unfold defs₀; rw [Defs.onTc_tc]

theorem body_obligation (c : Dev nD) :
    BodyObligation (dats (F := F) m 0 c) (defs₀ (F := F)) Variants.none () Set.univ := fun t => by
  rw [bigSep_W0, bigSep_W0, body_row]
  exact triple_restated (sound_body m c t) rfl .rfl fun _ => .rfl

/-- The scratches at anything are the scratches before the first point. -/
theorem inv_in (c : Dev nD) : Pipeline.ΦA spec0 c ⊢ (dats m 0 c).Φ 0 := by
  rw [show (dats m 0 c).Φ 0 = inv m c 0 from rfl]
  unfold inv Pipeline.ΦA
  rw [scopedRest0_eq]
  simp only [owns_whole]
  iintro ⟨⟨⟨%s0, HS0⟩, ⟨%s1, HS1⟩⟩, Hg⟩
  iexists s0, s1
  isplitr; · ipureintro; exact filled_zero m c _ _
  isplitl [HS0]; · iexact HS0
  isplitl [HS1]; · iexact HS1
  iexact Hg

/-- The filled scratches are scratches at something. -/
theorem inv_out (c : Dev nD) : (dats m 0 c).Φ (Fin.last cfg0.N) ⊢ Pipeline.ΦA spec0 c := by
  rw [show (dats m 0 c).Φ (Fin.last cfg0.N) = inv m c cfg0.N from rfl]
  unfold inv Pipeline.ΦA
  rw [scopedRest0_eq]
  simp only [owns_whole]
  iintro ⟨%s0, %s1, -, HS0, HS1, Hg⟩
  isplitl [HS0 HS1]
  · isplitl [HS0]
    · iexists s0; iexact HS0
    · iexists s1; iexact HS1
  iexact Hg

set_option backward.isDefEq.respectTransparency.types false in
/-- The whole run: the arrays end at what the write-backs leave, and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl) (howed := fun _ _ => rfl) (V := V m)
    (hmain := hmain m Variants.none) (hA := A_eq m) (hin := inv_in m) (hout := inv_out m) (hQ' := fun _ h => h)

/-- Every run ends with the arguments as they were and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- Every run ends with the result's array at what the write-backs leave. -/
theorem result_run : θ_run defs (onTc (τ := τ) (main (F := F))) ⟨m, fun _ => 0, ρ⟩ (fun r => ∀ c : Dev nD,
      r.2.mem ((c.tc : Thread nD τ).loc main_v2) = (dats m 0 c).arrAt 9 cfg0.N) :=
  (θ_run defs _ _).mono (fun _ h c => (h.1 c).1 9) (run_main m ρ)

end Cert.KernelMix0Ideal.Mix

end
-- ==== Proof.Mix0.Value.lean ====
module

public import proofs.«01_k».proof.Proof.Mix0.Run
public import proofs.«01_k».proof.Proof.Mix.Row
public import Idealize.ShloMosaic.Lib.Pipeline.ValueKit

/-! The first layer's second feed-forward call's result over the extended reals, as a function of its arguments, row by row. -/

@[expose] public section

set_option maxRecDepth 16512

noncomputable section

namespace Cert.KernelMix0Ideal.Mix

open Idealize.ShloMosaic Idealize.ShloMosaic.TcCoe
open Idealize.ShloMosaic.Pipeline (Dat Cfg Window)
open Cert.KernelMix0Ideal.Gen

/-! ### The body's payloads, row by row -/

/-- The residual block plus the normalised projection, at row `r`. -/
theorem pay4_apply (x0 : Vec Ideal S688x1024 .f32) (x1 x2 : Vec Ideal S688x512 .bf16) (x3 : Vec Ideal S1x1024x1024 .bf16)
    (x4 : Vec Ideal S1x1x1024 .f32) (r : Fin 688) (j : Fin 1024) :
    k0_pay4 x0 x1 (upper x3) x2 (lower x3) x4 (ix2 r j)
      = Row.mix (fun k => x0 (ix2 r k)) (fun k => x1 (ix2 r k)) (fun k => x2 (ix2 r k)) (fun k j => x3 (ix3 0 k j))
          (fun k => x4 (ix3 0 0 k)) j := by
  pointwise [k0_pay4, upper, lower]
  rfl

/-- The mean square of that row plus the small constant. -/
theorem pay6_apply (x0 : Vec Ideal S688x1024 .f32) (x1 x2 : Vec Ideal S688x512 .bf16) (x3 : Vec Ideal S1x1024x1024 .bf16)
    (x4 : Vec Ideal S1x1x1024 .f32) (r : Fin 688) :
    k0_pay6 x0 x1 (upper x3) x2 (lower x3) x4 (ix2 r 0)
      = Ideal.div (∑ k, k0_pay4 x0 x1 (upper x3) x2 (lower x3) x4 (ix2 r k) * k0_pay4 x0 x1 (upper x3) x2 (lower x3) x4 (ix2 r k))
          (Ideal.ofBits .f32 0x44800000#32) + Ideal.ofBits .f32 0x358637BD#32 := by
  pointwise [k0_pay6, k0_pay4]

/-- The stored block at row `r`: the feed-forward layer of the mixed row. -/
theorem blockOut_apply (x0 : Vec Ideal S688x1024 .f32) (x1 x2 : Vec Ideal S688x512 .bf16)
    (x3 : Vec Ideal S1x1024x1024 .bf16) (x4 x5 x8 : Vec Ideal S1x1x1024 .f32) (s0 : Vec Ideal S1024x5632 .bf16)
    (s1 : Vec Ideal S2816x1024 .bf16) (r : Fin 688) (j : Fin 1024) :
    blockOut x0 x1 x2 x3 x4 x5 x8 s0 s1 (ix2 r j)
      = Row.ffn (Row.mix (fun k => x0 (ix2 r k)) (fun k => x1 (ix2 r k)) (fun k => x2 (ix2 r k))
          (fun k j => x3 (ix3 0 k j)) (fun k => x4 (ix3 0 0 k))) (fun k => x5 (ix3 0 0 k)) (fun k => x8 (ix3 0 0 k))
          (fun k q => s0 (ix2 k q)) (fun q k => s1 (ix2 q k)) j := by
  pointwise [blockOut, k0_pay3, k0_pay5]
  rw [pay6_apply]
  simp only [pay4_apply]
  rfl

/-! ### The blocks, read off the arguments -/

variable (m : (ℓ : Loc nD τ sig) → Buf (Elt Ideal) ℓ)

/-- Where the blocks of point `t` begin. -/
theorem idx_in : ∀ t : Fin cfg0.N, win0_0.index t = ![(t.val - 8) / 3 * 2112 + (t.val - 8) % 3 * 688, 0]
    ∧ win0_1.index t = ![(t.val - 8) / 3 * 2112 + (t.val - 8) % 3 * 688, 0]
    ∧ win0_2.index t = ![(t.val - 8) / 3 * 2112 + (t.val - 8) % 3 * 688, 0]
    ∧ win0_3.index t = ![0, 0, 0] ∧ win0_4.index t = ![3, 0, 0] ∧ win0_5.index t = ![4, 0, 0]
    ∧ win0_6.index t = ![0, min t.val 7, 0] ∧ win0_7.index t = ![0, min t.val 7, 0] ∧ win0_8.index t = ![5, 0, 0]
    ∧ win0_9.index t = ![t.val - 8, 0] := by decide +kernel

/-- The row of the padded arrays where the block of point `t` begins, `r` rows on. -/
def row (t : Fin cfg0.N) (r : Fin 688) : Fin 16896 :=
  ⟨(t.val - 8) / 3 * 2112 + (t.val - 8) % 3 * 688 + r.val, by
    have := lt_of_lt_of_eq t.isLt N_0; omega⟩

/-- The residual block is 688 rows of the padded residual stream. -/
theorem blk_0 (c : Dev nD) (t : Fin cfg0.N) (r : Fin 688) (k : Fin 1024) :
    (iblk m c 0 t : Vec Ideal S688x1024 .f32) (ix2 r k) = m ((c : Thread nD τ).loc main_arg0) (ix2 (row t r) k) := by
  blk_ext [iblk, V_main_arg0, row]
  · exact (Window.rect_emb_val_off win0_0 t (ix2 r k) 0).trans (by rw [(idx_in t).1]; rfl)
  · exact (Window.rect_emb_val_off win0_0 t (ix2 r k) 1).trans (by rw [(idx_in t).1]; exact Nat.zero_add _)

/-- The first mixer's block is the same rows of its array. -/
theorem blk_1 (c : Dev nD) (t : Fin cfg0.N) (r : Fin 688) (k : Fin 512) :
    (iblk m c 1 t : Vec Ideal S688x512 .bf16) (ix2 r k) = m ((c : Thread nD τ).loc main_arg1) (ix2 (row t r) k) := by
  blk_ext [iblk, V_main_arg1, row]
  · exact (Window.rect_emb_val_off win0_1 t (ix2 r k) 0).trans (by rw [(idx_in t).2.1]; rfl)
  · exact (Window.rect_emb_val_off win0_1 t (ix2 r k) 1).trans (by rw [(idx_in t).2.1]; exact Nat.zero_add _)

/-- The second mixer's block is the same rows of its array. -/
theorem blk_2 (c : Dev nD) (t : Fin cfg0.N) (r : Fin 688) (k : Fin 512) :
    (iblk m c 2 t : Vec Ideal S688x512 .bf16) (ix2 r k) = m ((c : Thread nD τ).loc main_arg2) (ix2 (row t r) k) := by
  blk_ext [iblk, V_main_arg2, row]
  · exact (Window.rect_emb_val_off win0_2 t (ix2 r k) 0).trans (by rw [(idx_in t).2.2.1]; rfl)
  · exact (Window.rect_emb_val_off win0_2 t (ix2 r k) 1).trans (by rw [(idx_in t).2.2.1]; exact Nat.zero_add _)

/-- The projection's block is layer 0 of the cast projection. -/
theorem blk_3 (c : Dev nD) (t : Fin cfg0.N) (k j : Fin 1024) :
    (iblk m c 3 t : Vec Ideal S1x1024x1024 .bf16) (ix3 0 k j) = m ((c : Thread nD τ).loc main_arg6) (ix3 0 k j) := by
  blk_point [iblk, idx_in t]

/-! The norm rows' blocks are rows 3, 4 and 5 of layer 0's norm weights. -/

theorem blk_4 (c : Dev nD) (t : Fin cfg0.N) (k : Fin 1024) :
    (iblk m c 4 t : Vec Ideal S1x1x1024 .f32) (ix3 0 0 k) = m ((c : Thread nD τ).loc main_arg3) (ix3 0 3 k) := by
  blk_point [iblk, idx_in t]

theorem blk_5 (c : Dev nD) (t : Fin cfg0.N) (k : Fin 1024) :
    (iblk m c 5 t : Vec Ideal S1x1x1024 .f32) (ix3 0 0 k) = m ((c : Thread nD τ).loc main_arg3) (ix3 0 4 k) := by
  blk_point [iblk, idx_in t]

theorem blk_8 (c : Dev nD) (t : Fin cfg0.N) (k : Fin 1024) :
    (iblk m c 8 t : Vec Ideal S1x1x1024 .f32) (ix3 0 0 k) = m ((c : Thread nD τ).loc main_arg3) (ix3 0 5 k) := by
  blk_point [iblk, idx_in t]

/-- A loading point's tile of the first weight. -/
theorem blk_6 (c : Dev nD) (t : Fin cfg0.N) (ht : t.val < 8) (r : Fin 128) (q : Fin 5632) :
    (iblk m c 6 t : Vec Ideal S1x128x5632 .f32) (ix3 0 r q)
      = m ((c : Thread nD τ).loc main_arg4) (ix3 0 ⟨t.val * 128 + r.val, by omega⟩ q) := by
  blk_ext [iblk, V_main_arg4, idx_in t]

/-- A loading point's tile of the second weight. -/
theorem blk_7 (c : Dev nD) (t : Fin cfg0.N) (ht : t.val < 8) (r : Fin 352) (k : Fin 1024) :
    (iblk m c 7 t : Vec Ideal S1x352x1024 .f32) (ix3 0 r k)
      = m ((c : Thread nD τ).loc main_arg5) (ix3 0 ⟨t.val * 352 + r.val, by omega⟩ k) := by
  blk_ext [iblk, V_main_arg5, idx_in t]

/-- The cast of a tile of the first weight, at an index. -/
theorem pay1_apply (x : Vec Ideal S1x128x5632 .f32) (r : Fin 128) (q : Fin 5632) : k0_pay1 x (ix2 r q) = x (ix3 0 r q) := by
  pointwise [k0_pay1]

/-- The cast of a tile of the second weight, at an index. -/
theorem pay2_apply (x : Vec Ideal S1x352x1024 .f32) (r : Fin 352) (k : Fin 1024) : k0_pay2 x (ix2 r k) = x (ix3 0 r k) := by
  pointwise [k0_pay2]

/-- The first scratch, filled, is layer 0 of the first weight. -/
theorem castIn_apply (c : Dev nD) (k : Fin 1024) (q : Fin 5632) :
    castIn m c (ix2 k q) = m ((c : Thread nD τ).loc main_arg4) (ix3 0 k q) := by
  refine (pay1_apply _ ⟨k.val % 128, Nat.mod_lt _ (by decide)⟩ q).trans
    ((blk_6 m c _ (Nat.div_lt_of_lt_mul k.isLt) _ q).trans ?_)
  congr 2
  exact Fin.ext (Nat.div_add_mod' _ _)

/-- The second scratch, filled, is layer 0 of the second weight. -/
theorem castOut_apply (c : Dev nD) (q : Fin 2816) (k : Fin 1024) :
    castOut m c (ix2 q k) = m ((c : Thread nD τ).loc main_arg5) (ix3 0 q k) := by
  refine (pay2_apply _ ⟨q.val % 352, Nat.mod_lt _ (by decide)⟩ k).trans
    ((blk_7 m c _ (Nat.div_lt_of_lt_mul q.isLt) _ k).trans ?_)
  congr 2
  exact Fin.ext (Nat.div_add_mod' _ _)

/-! ### The result -/

/-- The row of the padded arrays that row `r` of the result is computed from. -/
def src (r : Fin 16512) : Fin 16896 := ⟨r.val / 2064 * 2112 + r.val % 2064, by omega⟩

/-- The call's result as a function of its arguments: each row the feed-forward layer of its mixed row. -/
def result (c : Dev nD) : Vec Ideal S16512x1024 .f32 := fun i =>
  Row.ffn (Row.mix (fun k => m ((c : Thread nD τ).loc main_arg0) (ix2 (src (i 0)) k))
      (fun k => m ((c : Thread nD τ).loc main_arg1) (ix2 (src (i 0)) k))
      (fun k => m ((c : Thread nD τ).loc main_arg2) (ix2 (src (i 0)) k))
      (fun k j => m ((c : Thread nD τ).loc main_arg6) (ix3 0 k j)) (fun k => m ((c : Thread nD τ).loc main_arg3) (ix3 0 3 k)))
    (fun k => m ((c : Thread nD τ).loc main_arg3) (ix3 0 4 k)) (fun k => m ((c : Thread nD τ).loc main_arg3) (ix3 0 5 k))
    (fun k q => m ((c : Thread nD τ).loc main_arg4) (ix3 0 k q)) (fun q k => m ((c : Thread nD τ).loc main_arg5) (ix3 0 q k))
    (i 1)

/-- A working point's block is the result's block of that point. -/
theorem outBlock_apply (c : Dev nD) (t : Fin cfg0.N) (ht : 8 ≤ t.val) (r : Fin 688) (j : Fin 1024) (i : S16512x1024.Idx)
    (h0 : (i 0).val = (t.val - 8) * 688 + r.val) (h1 : (i 1).val = j.val) :
    outBlock m c t (ix2 r j) = result m c i := by
  have hs : src (i 0) = row t r := Fin.ext (by
    show (i 0).val / 2064 * 2112 + (i 0).val % 2064 = (t.val - 8) / 3 * 2112 + (t.val - 8) % 3 * 688 + r.val
    have := r.isLt
    omega)
  have hj : i 1 = j := Fin.ext h1
  unfold outBlock result
  rw [if_neg (by omega), blockOut_apply, hs, hj]
  simp only [blk_0, blk_1, blk_2, blk_3, blk_4, blk_5, blk_8, castIn_apply, castOut_apply]

theorem flush_iff : ∀ t : Fin cfg0.N, (cfg0.win 9).flush t = true → 8 ≤ t.val := by decide +kernel

/-- After the run the result's array holds `result`. -/
theorem result_eq (c : Dev nD) : (dats m 0 c).arrAt 9 cfg0.N = result m c := by
  refine (dats m 0 c).arrAt_eq_of_covers 9 _ (by decide +kernel) fun t hf y => ?_
  rw [after_9]
  have hy : (outBlock m c t : S688x1024.Idx → Ideal .f32) y = outBlock m c t (ix2 (y 0) (y 1)) :=
    congrArg _ (funext fun a => by fin_cases a <;> rfl)
  refine hy.trans (outBlock_apply m c t (flush_iff t hf) (y 0) (y 1) _ ?_ ?_)
  · exact (Window.rect_emb_val win0_9 t y 0).trans (by rw [(idx_in t).2.2.2.2.2.2.2.2.2]; rfl)
  · exact (Window.rect_emb_val win0_9 t y 1).trans (by rw [(idx_in t).2.2.2.2.2.2.2.2.2]; exact Nat.zero_add _)

end Cert.KernelMix0Ideal.Mix
-- ==== Proof.Mix0.Ref.lean ====
module

public import proofs.«01_k».proof.Proof.Gen.ReferenceMix0Ideal.Read
public import proofs.«01_k».proof.Proof.Mix.Row

/-! What the reference of the first layer's second feed-forward call computes, row by row, over the extended reals. -/

@[expose] public section

set_option maxRecDepth 16384

noncomputable section

namespace Cert.ReferenceMix0Ideal.Mix

open Idealize.ShloMosaic
open Cert.ReferenceMix0Ideal Cert.ReferenceMix0Ideal.Read

variable (x0 : Vec Ideal S16896x1024 .f32) (x1 x2 : Vec Ideal S16896x512 .bf16) (x3 : Vec Ideal S2x6x1024 .f32)
  (x4 : Vec Ideal S2x1024x5632 .f32) (x5 : Vec Ideal S2x2816x1024 .f32) (x6 : Vec Ideal S2x1024x1024 .f32)

/-- The row of the padded arrays that holds position `p` of sequence `b`. -/
def pos (b : Fin 8) (p : Fin 2064) : Fin 16896 := ⟨b.val * 2112 + p.val, by omega⟩

/-- The residual row after the mixers' projection. -/
def hrow (b : Fin 8) (p : Fin 2064) : Fin 1024 → EReal :=
  Row.mix (fun k => x0 (ix2 (pos b p) k)) (fun k => x1 (ix2 (pos b p) k)) (fun k => x2 (ix2 (pos b p) k))
    (fun k j => x6 (ix3 0 k j)) (fun k => x3 (ix3 0 3 k))

/-- The concatenated mixers' rows, in the left half. -/
theorem v10_left (b : Fin 8) (p : Fin 2064) (k : Fin 512) :
    val_main_v10 (F := Ideal) x1 x2 (ix3 b p ⟨k.val, Nat.lt_of_lt_of_le k.isLt (by decide)⟩) = x1 (ix2 (pos b p) k) := by
  pointwise [val_main_v10, val_main_v6, val_main_v5, val_main_v4]
  rfl

/-- The concatenated mixers' rows, in the right half. -/
theorem v10_right (b : Fin 8) (p : Fin 2064) (k : Fin 512) :
    val_main_v10 (F := Ideal) x1 x2 (ix3 b p ⟨512 + k.val, Nat.add_lt_add_left k.isLt 512⟩) = x2 (ix2 (pos b p) k) := by
  pointwise [val_main_v10, val_main_v9, val_main_v8, val_main_v7]
  rfl

/-- The mixers' rows times the output projection. -/
theorem v13_apply (b : Fin 8) (p : Fin 2064) (j : Fin 1024) :
    val_main_v13 (F := Ideal) x1 x2 x6 (ix3 b p j) = Row.proj (fun k => x1 (ix2 (pos b p) k))
      (fun k => x2 (ix2 (pos b p) k)) (fun k j => x6 (ix3 0 k j)) j := by
  pointwise [val_main_v13, val_main_v12, val_main_v11]
  rw [Row.sum_halves]
  simp only [v10_left, v10_right]
  rfl

/-- The residual row plus the normalised projection. -/
theorem v29_apply (b : Fin 8) (p : Fin 2064) (j : Fin 1024) :
    val_main_v29 (F := Ideal) x0 x1 x2 x3 x6 (ix3 b p j) = hrow x0 x1 x2 x3 x6 b p j := by
  pointwise [val_main_v29, val_main_v28, val_main_v27, val_main_v26, val_main_v25, val_main_v24, val_main_v23, val_main_v22,
    val_main_v21, val_main_v20, val_main_v19, val_main_v18, val_main_v17, val_main_v16, val_main_v15, val_main_v14,
    val_main_v3, val_main_v2, val_main_v1, val_main_v0, val_main_cst, val_main_cst_0, val_main_cst_1, v13_apply]
  rfl

/-- That row, normalised for the feed-forward layer. -/
theorem v44_apply (b : Fin 8) (p : Fin 2064) (j : Fin 1024) :
    val_main_v44 (F := Ideal) x0 x1 x2 x3 x6 (ix3 b p j)
      = Row.rms (hrow x0 x1 x2 x3 x6 b p) (fun k => x3 (ix3 0 4 k)) j := by
  pointwise [val_main_v44, val_main_v43, val_main_v42, val_main_v41, val_main_v40, val_main_v39, val_main_v38, val_main_v37,
    val_main_v36, val_main_v35, val_main_v34, val_main_v33, val_main_v32, val_main_v31, val_main_v30, val_main_v1,
    val_main_v0, val_main_cst_2, val_main_cst_3, val_main_cst_4, v29_apply]
  rfl

/-- The hidden row's left half. -/
theorem v50_apply (b : Fin 8) (p : Fin 2064) (q : Fin 2816) :
    val_main_v50 (F := Ideal) x0 x1 x2 x3 x4 x6 (ix3 b p q)
      = Row.gate (Row.rms (hrow x0 x1 x2 x3 x6 b p) (fun k => x3 (ix3 0 4 k))) (fun k j => x4 (ix3 0 k j)) q := by
  pointwise [val_main_v50, val_main_v49, val_main_v46, val_main_v45, v44_apply]
  rfl

/-- The hidden row's right half. -/
theorem v51_apply (b : Fin 8) (p : Fin 2064) (q : Fin 2816) :
    val_main_v51 (F := Ideal) x0 x1 x2 x3 x4 x6 (ix3 b p q)
      = Row.up (Row.rms (hrow x0 x1 x2 x3 x6 b p) (fun k => x3 (ix3 0 4 k))) (fun k j => x4 (ix3 0 k j)) q := by
  pointwise [val_main_v51, val_main_v49, val_main_v46, val_main_v45, v44_apply]
  rfl

/-- The logistic function of the left half, as the reference writes it out. -/
theorem sig_apply (b : Fin 8) (p : Fin 2064) (q : Fin 2816) :
    val_main_call0_v5 (F := Ideal) x0 x1 x2 x3 x4 x6 (ix3 b p q)
      = Ideal.logistic (val_main_v50 (F := Ideal) x0 x1 x2 x3 x4 x6 (ix3 b p q)) := by
  pointwise [val_main_call0_v5, val_main_call0_v4, val_main_call0_v3, val_main_call0_v2, val_main_call0_v1,
    val_main_call0_v0, val_main_call0_cst, val_main_call0_cst_0]
  rfl

/-- The feed-forward layer's row before its norm. -/
theorem v54_apply (b : Fin 8) (p : Fin 2064) (j : Fin 1024) :
    val_main_v54 (F := Ideal) x0 x1 x2 x3 x4 x5 x6 (ix3 b p j)
      = Row.swiglu (Row.rms (hrow x0 x1 x2 x3 x6 b p) (fun k => x3 (ix3 0 4 k))) (fun k j => x4 (ix3 0 k j))
          (fun k j => x5 (ix3 0 k j)) j := by
  pointwise [val_main_v54, val_main_v53, val_main_v52, val_main_v48, val_main_v47]
  simp only [sig_apply, v50_apply, v51_apply]
  rfl

/-- The layer's row: half the normalised feed-forward value added. -/
theorem v72_apply (b : Fin 8) (p : Fin 2064) (j : Fin 1024) :
    val_main_v72 (F := Ideal) x0 x1 x2 x3 x4 x5 x6 (ix3 b p j)
      = Row.ffn (hrow x0 x1 x2 x3 x6 b p) (fun k => x3 (ix3 0 4 k)) (fun k => x3 (ix3 0 5 k)) (fun k j => x4 (ix3 0 k j))
          (fun k j => x5 (ix3 0 k j)) j := by
  pointwise [val_main_v72, val_main_v71, val_main_v70, val_main_v69, val_main_v68, val_main_v67, val_main_v66, val_main_v65,
    val_main_v64, val_main_v63, val_main_v62, val_main_v61, val_main_v60, val_main_v59, val_main_v58, val_main_v57,
    val_main_v56, val_main_v55, val_main_v1, val_main_v0, val_main_cst_5, val_main_cst_6, val_main_cst_7, val_main_cst_8,
    v29_apply, v54_apply]
  rfl

/-- The result's row `r` is the layer's row of position `r % 2064` of sequence `r / 2064`. -/
theorem v73_apply (r : Fin 16512) (j : Fin 1024) :
    val_main_v73 (F := Ideal) x0 x1 x2 x3 x4 x5 x6 (ix2 r j)
      = val_main_v72 (F := Ideal) x0 x1 x2 x3 x4 x5 x6 (ix3 ⟨r.val / 2064, by omega⟩ ⟨r.val % 2064, by omega⟩ j) := by
  pointwise [val_main_v73]

end Cert.ReferenceMix0Ideal.Mix
-- ==== Proof.Mix0.Agree.lean ====
module

public import proofs.«01_k».proof.Defs
public import proofs.«01_k».proof.Proof.Mix0.Value
public import proofs.«01_k».proof.Proof.Mix0.Ref
public import proofs.«01_k».proof.Proof.Gen.KernelMix0

/-! The first layer's second feed-forward call and its reference leave one result from the same arguments. -/

@[expose] public section

set_option maxRecDepth 16384

noncomputable section

namespace Cert.Mix0

open Idealize.ShloMosaic Idealize.SL.Sem

/-- The reference's result, on the arguments the kernel reads, is the kernel's. -/
theorem ref_result (m : (ℓ : Loc KernelMix0Ideal.nD KernelMix0Ideal.τ KernelMix0Ideal.sig) → Buf (Elt Ideal) ℓ) (c : Dev KernelMix0Ideal.nD) :
    ReferenceMix0Ideal.Read.val_main_v73 (F := Ideal) (m ((c.tc : Thread KernelMix0Ideal.nD KernelMix0Ideal.τ).loc KernelMix0Ideal.main_arg0))
      (m ((c.tc : Thread KernelMix0Ideal.nD KernelMix0Ideal.τ).loc KernelMix0Ideal.main_arg1))
      (m ((c.tc : Thread KernelMix0Ideal.nD KernelMix0Ideal.τ).loc KernelMix0Ideal.main_arg2))
      (m ((c.tc : Thread KernelMix0Ideal.nD KernelMix0Ideal.τ).loc KernelMix0Ideal.main_arg3))
      (m ((c.tc : Thread KernelMix0Ideal.nD KernelMix0Ideal.τ).loc KernelMix0Ideal.main_arg4))
      (m ((c.tc : Thread KernelMix0Ideal.nD KernelMix0Ideal.τ).loc KernelMix0Ideal.main_arg5))
      (m ((c.tc : Thread KernelMix0Ideal.nD KernelMix0Ideal.τ).loc KernelMix0Ideal.main_arg6))
      = KernelMix0Ideal.Mix.result m c := by
  funext i
  rw [show i = ix2 (i 0) (i 1) from funext fun a => by fin_cases a <;> rfl]
  exact (ReferenceMix0Ideal.Mix.v73_apply _ _ _ _ _ _ _ (i 0) (i 1)).trans (ReferenceMix0Ideal.Mix.v72_apply _ _ _ _ _ _ _ _ _ _)

/-- From the same arguments the kernel and the reference end with the same result, over the extended reals. -/
theorem algebraic [hKernelMix0Ideal : KernelMix0Ideal.Facts] [hReferenceMix0Ideal : ReferenceMix0Ideal.Facts] :
    algebraic_KernelMix0Ideal_ReferenceMix0Ideal := fun m g m' g' _ hin =>
  ⟨KernelMix0Ideal.Mix.result m,
    (θ_run _ _ _).mono (fun r h c => ⟨(h.1 c).trans (KernelMix0Ideal.Mix.result_eq m c), h.2.1 c⟩)
      (θ_run_and (KernelMix0Ideal.Mix.result_run m g) (KernelMix0Ideal.Mix.frame m g)),
    (θ_run _ _ _).mono (fun r h c => ⟨by
        obtain ⟨h0, h1, h2, h3, h4, h5, h6⟩ := hin c
        have hr := ref_result m c
        rw [← h0, ← h1, ← h2, ← h3, ← h4, ← h5, ← h6] at hr
        exact (h c).1.trans ((ReferenceMix0Ideal.Read.val_main_v73_eq _).trans hr), (h c).2⟩)
      (ReferenceMix0Ideal.Value.run m' g')⟩

/-- Every run of the reference ends with the arguments as they were and the counters, of which it has none, at zero. -/
theorem frame_ref [hReferenceMix0Ideal : ReferenceMix0Ideal.Facts] : quiescent_ReferenceMix0Ideal := fun m ρ _ =>
  (θ_run _ _ _).mono (fun r h => ⟨fun c => (h c).2, sem_eq_zero_of_no_sems (by decide) r.2⟩)
    (ReferenceMix0Ideal.Value.run m ρ)

/-- The kernel's program is the ideal kernel's, read at any memory. -/
theorem same_program (m : (ℓ : Loc KernelMix0.nD KernelMix0.τ KernelMix0.sig) → Buf (Elt Bits) ℓ) (ρ : Dev KernelMix0.nD → PrngReg) :
    θ_run (KernelMix0.defs (F := Bits)) (onTc (τ := KernelMix0.τ) (KernelMix0.main (F := Bits))) ⟨m, fun _ => 0, ρ⟩
      = θ_run (KernelMix0Ideal.defs (F := Bits)) (onTc (τ := KernelMix0Ideal.τ) (KernelMix0Ideal.main (F := Bits))) ⟨m, fun _ => 0, ρ⟩ := by
  sl_kernel_rfl

/-- Every run of the kernel, at the machine's floats, ends with the arguments as they were and the counters at zero. -/
theorem frame_kernel : quiescent_KernelMix0 (hKernelMix0 := KernelMix0.Gen.facts) := fun m ρ _ => by
  rw [same_program]
  exact KernelMix0Ideal.Mix.frame (F := Bits) m ρ

end Cert.Mix0
-- ==== Proof.Ffn1.Body.lean ====
module

public import proofs.«01_k».proof.Proof.Gen.KernelFfn1Ideal.Skeleton
public import proofs.«01_k».proof.Proof.Gen.KernelFfn1Ideal.Frame
public import proofs.«01_k».proof.Proof.Tiles
public import Idealize.ShloMosaic.Lib.Claim

/-! The kernel body of the last layer's first feed-forward call, run once per case of its conditionals. -/

@[expose] public section

set_option maxRecDepth 16384

noncomputable section

namespace Cert.KernelFfn1Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelFfn1Ideal.Gen Cert.Tiles

variable {F : FTy → Type} [FloatOps F]

local notation "𝕄" => MT nD τ sig Unit (Elt F) ℕ (UR sig nD τ) ℕ

/-- What a working point leaves in the output block: of the residual block, the two norm rows and the two cast
weights. -/
def blockOut (x0 : Vec F S688x1024 .f32) (x1 x4 : Vec F S1x1x1024 .f32) (s0 : Vec F S1024x5632 .bf16)
    (s1 : Vec F S2816x1024 .bf16) : Vec F S688x1024 .f32 :=
  k0_pay3 x0 (k0_pay4 x0 x1 s0 s1 x4)

set_option maxHeartbeats 1000000 in
/-- At a loading point the body casts its two weight tiles into the rows of the two scratches that are theirs, and
copies the residual block to the output block. -/
theorem run_load (c : Dev nD) (i : grid0.Coords)
    (arg1 : Memref sig .tc .vmem S688x1024 .f32) (harg1 : arg1.IsWhole)
    (arg2 : Memref sig .tc .vmem S1x1x1024 .f32) (harg2 : arg2.IsWhole)
    (arg3 : Memref sig .tc .vmem S1x128x5632 .f32) (harg3 : arg3.IsWhole)
    (arg4 : Memref sig .tc .vmem S1x352x1024 .f32) (harg4 : arg4.IsWhole)
    (arg5 : Memref sig .tc .vmem S1x1x1024 .f32) (harg5 : arg5.IsWhole)
    (arg6 : Memref sig .tc .vmem S688x1024 .f32) (harg6 : arg6.IsWhole)
    (arg7 : Memref sig .tc .vmem S1024x5632 .bf16) (harg7 : arg7.IsWhole)
    (arg8 : Memref sig .tc .vmem S2816x1024 .bf16) (harg8 : arg8.IsWhole)
    (h1 : k0_cond1 i = 1#1) (h2 : ¬ k0_cond2 i = 1#1) {o1 o2 : ℕ} (ho1 : k0_off1 i = ![o1, 0]) (ho2 : k0_off2 i = ![o2, 0])
    (x0 : Vec F S688x1024 .f32) (x1 : Vec F S1x1x1024 .f32) (x2 : Vec F S1x128x5632 .f32) (x3 : Vec F S1x352x1024 .f32) (x4 : Vec F S1x1x1024 .f32)
    (s0 : Vec F S1024x5632 .bf16) (s1 : Vec F S2816x1024 .bf16)
    (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4 ∗ (∃ d, owns (c : Thread nD τ) arg6 fullShare d)
        ∗ owns (c : Thread nD τ) arg7 fullShare s0 ∗ owns (c : Thread nD τ) arg8 fullShare s1
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4 ∗ owns (c : Thread nD τ) arg6 fullShare x0
            ∗ (∃ d, ⌜RowsPut o1 (k0_pay1 x2) s0 d⌝ ∗ owns (c : Thread nD τ) arg7 fullShare d)
            ∗ (∃ d, ⌜RowsPut o2 (k0_pay2 x3) s1 d⌝ ∗ owns (c : Thread nD τ) arg8 fullShare d)) -∗ K ⟨⟩))
      ⊢ wp frame (wpE (defs₀ (F := F)) Variants.none c none) E (cc0_ffn i arg1 harg1 arg2 harg2 arg3 harg3 arg4 harg4 arg5 harg5 arg6 harg6 arg7 harg7 arg8 harg8) K := by
  simp only [cc0_ffn_eq_skeleton]; unfold cc0_ffn_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, ⟨%g0, %hg0, HS0⟩, ⟨%g1, %hg1, HS1⟩, Hk⟩
  obtain rfl := harg1.eq_unread hf0; obtain rfl := harg2.eq_unread hf1; obtain rfl := harg3.eq_unread hf2; obtain rfl := harg4.eq_unread hf3; obtain rfl := harg5.eq_unread hf4
  obtain rfl := harg7.eq_unread hg0; obtain rfl := harg8.eq_unread hg1
  sl_exec (disch := first | sl_exact h1 | sl_exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HO]
  · iexists _; isplitr; swap; · iexact HO
    ipureintro
    rw [View.read_writes_full arg6.view fO inb_S688x1024_S688x1024_0_0, load_all harg1 x0 off2]
  isplitl [HS0]
  · iexists _; isplitr; swap
    · iexists _; isplitr; swap; · iexact HS0
      ipureintro; rfl
    ipureintro
    constructor
    · intro x y hx hy
      rw [load_all harg3 x2 off3]
      exact View.read_writes_cons_rows_of_mem _ _ _ _ _ y x ho1 hx hy
    · intro y hy
      rw [View.read_writes_cons_rows_of_not_mem _ _ _ _ _ y ho1 rfl hy, View.writes_nil, harg7.read_unread]
  iexists _; isplitr; swap
  · iexists _; isplitr; swap; · iexact HS1
    ipureintro; rfl
  ipureintro
  constructor
  · intro x y hx hy
    rw [load_all harg4 x3 off3]
    exact View.read_writes_cons_rows_of_mem _ _ _ _ _ y x ho2 hx hy
  · intro y hy
    rw [View.read_writes_cons_rows_of_not_mem _ _ _ _ _ y ho2 rfl hy, View.writes_nil, harg8.read_unread]

set_option maxHeartbeats 1000000 in
/-- At a working point the body leaves `blockOut` of its blocks and of the scratches in the output block. -/
theorem run_work (c : Dev nD) (i : grid0.Coords)
    (arg1 : Memref sig .tc .vmem S688x1024 .f32) (harg1 : arg1.IsWhole)
    (arg2 : Memref sig .tc .vmem S1x1x1024 .f32) (harg2 : arg2.IsWhole)
    (arg3 : Memref sig .tc .vmem S1x128x5632 .f32) (harg3 : arg3.IsWhole)
    (arg4 : Memref sig .tc .vmem S1x352x1024 .f32) (harg4 : arg4.IsWhole)
    (arg5 : Memref sig .tc .vmem S1x1x1024 .f32) (harg5 : arg5.IsWhole)
    (arg6 : Memref sig .tc .vmem S688x1024 .f32) (harg6 : arg6.IsWhole)
    (arg7 : Memref sig .tc .vmem S1024x5632 .bf16) (harg7 : arg7.IsWhole)
    (arg8 : Memref sig .tc .vmem S2816x1024 .bf16) (harg8 : arg8.IsWhole)
    (h1 : ¬ k0_cond1 i = 1#1) (h2 : k0_cond2 i = 1#1)
    (x0 : Vec F S688x1024 .f32) (x1 : Vec F S1x1x1024 .f32) (x2 : Vec F S1x128x5632 .f32) (x3 : Vec F S1x352x1024 .f32) (x4 : Vec F S1x1x1024 .f32)
    (s0 : Vec F S1024x5632 .bf16) (s1 : Vec F S2816x1024 .bf16)
    (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4 ∗ (∃ d, owns (c : Thread nD τ) arg6 fullShare d)
        ∗ owns (c : Thread nD τ) arg7 fullShare s0 ∗ owns (c : Thread nD τ) arg8 fullShare s1
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4 ∗ owns (c : Thread nD τ) arg6 fullShare (blockOut x0 x1 x4 s0 s1)
            ∗ owns (c : Thread nD τ) arg7 fullShare s0 ∗ owns (c : Thread nD τ) arg8 fullShare s1) -∗ K ⟨⟩))
      ⊢ wp frame (wpE (defs₀ (F := F)) Variants.none c none) E (cc0_ffn i arg1 harg1 arg2 harg2 arg3 harg3 arg4 harg4 arg5 harg5 arg6 harg6 arg7 harg7 arg8 harg8) K := by
  simp only [cc0_ffn_eq_skeleton]; unfold cc0_ffn_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, ⟨%g0, %hg0, HS0⟩, ⟨%g1, %hg1, HS1⟩, Hk⟩
  obtain rfl := harg1.eq_unread hf0; obtain rfl := harg2.eq_unread hf1; obtain rfl := harg3.eq_unread hf2; obtain rfl := harg4.eq_unread hf3; obtain rfl := harg5.eq_unread hf4
  obtain rfl := harg7.eq_unread hg0; obtain rfl := harg8.eq_unread hg1
  sl_exec (disch := first | sl_exact h1 | sl_exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HO]
  · iexists _; isplitr; swap; · iexact HO
    ipureintro
    rw [View.read_writes_full arg6.view fO inb_S688x1024_S688x1024_0_0]
    sl_unfold_words
    rw [load_all harg7 s0 off2, load_all harg8 s1 off2, load_all harg1 x0 off2,
      load_all harg2 x1 off3, load_all harg5 x4 off3]
    rfl
  isplitl [HS0]
  · iexists _; isplitr; · ipureintro; exact harg7.read_unread _
    iexact HS0
  iexists _; isplitr; · ipureintro; exact harg8.read_unread _
  iexact HS1

end Cert.KernelFfn1Ideal.Ffn

end
-- ==== Proof.Ffn1.Run.lean ====
module

public import proofs.«01_k».proof.Proof.Ffn1.Body

/-! The run of the last layer's first feed-forward call over any element semantics: the two scratches fill with the cast weights at
the loading points, and every working point leaves its block of the result. -/

@[expose] public section

set_option maxRecDepth 16384

noncomputable section

namespace Cert.KernelFfn1Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelFfn1Ideal.Gen Cert.Tiles

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point whose tile holds row `r` of a weight that comes in tiles of `W` rows. -/
abbrev tilePt (R W r : ℕ) (hr : r < R) (hR : R = W * 8) : Fin cfg0.N :=
  ⟨r / W, by rw [show cfg0.N = 32 from N_0]; have := Nat.div_lt_of_lt_mul (hR ▸ hr); omega⟩

/-- The first weight, cast, row by row from the tiles of the loading points. -/
def castIn (c : Dev nD) : Vec F S1024x5632 .bf16 := fun y =>
  k0_pay1 (iblk m c 2 (tilePt 1024 128 (y 0).val (y 0).isLt rfl))
    (ix2 (⟨(y 0).val % 128, Nat.mod_lt _ (by decide)⟩ : Fin 128) (y 1))

/-- The second weight, cast, row by row from the tiles of the loading points. -/
def castOut (c : Dev nD) : Vec F S2816x1024 .bf16 := fun y =>
  k0_pay2 (iblk m c 3 (tilePt 2816 352 (y 0).val (y 0).isLt rfl))
    (ix2 (⟨(y 0).val % 352, Nat.mod_lt _ (by decide)⟩ : Fin 352) (y 1))

/-- After `n` points the first `n` tiles' rows of the scratches hold the cast weights. -/
def Filled (c : Dev nD) (n : ℕ) (s0 : Vec F S1024x5632 .bf16) (s1 : Vec F S2816x1024 .bf16) : Prop :=
  (∀ y : S1024x5632.Idx, (y 0).val < 128 * n → s0 y = castIn m c y)
    ∧ ∀ y : S2816x1024.Idx, (y 0).val < 352 * n → s1 y = castOut m c y

theorem filled_zero (c : Dev nD) (s0 : Vec F S1024x5632 .bf16) (s1 : Vec F S2816x1024 .bf16) : Filled m c 0 s0 s1 :=
  ⟨fun _ h => absurd h (by omega), fun _ h => absurd h (by omega)⟩

theorem filled_succ (c : Dev nD) (t : Fin cfg0.N) (s0 d0 : Vec F S1024x5632 .bf16) (s1 d1 : Vec F S2816x1024 .bf16)
    (h : Filled m c t.val s0 s1) (h0 : RowsPut (128 * t.val) (k0_pay1 (iblk m c 2 t)) s0 d0)
    (h1 : RowsPut (352 * t.val) (k0_pay2 (iblk m c 3 t)) s1 d1) : Filled m c (t.val + 1) d0 d1 := by
  refine ⟨fill_step (by decide) t.val _ (castIn m c) s0 d0 h0 h.1 ?_,
    fill_step (by decide) t.val _ (castOut m c) s1 d1 h1 h.2 ?_⟩
  · intro y hy
    unfold castIn
    rw [show tilePt 1024 128 (y 0).val (y 0).isLt rfl = t from Fin.ext hy]
  · intro y hy
    unfold castOut
    rw [show tilePt 2816 352 (y 0).val (y 0).isLt rfl = t from Fin.ext hy]

/-- From the eighth point on the scratches hold the cast weights whole. -/
theorem filled_full (c : Dev nD) {n : ℕ} (hn : 8 ≤ n) (s0 : Vec F S1024x5632 .bf16) (s1 : Vec F S2816x1024 .bf16)
    (h : Filled m c n s0 s1) : s0 = castIn m c ∧ s1 = castOut m c := by
  constructor
  · funext y
    have : (y 0).val < 1024 := (y 0).isLt
    exact h.1 y (by omega)
  · funext y
    have : (y 0).val < 2816 := (y 0).isLt
    exact h.2 y (by omega)

theorem filled_of_full (c : Dev nD) (n : ℕ) : Filled m c n (castIn m c) (castOut m c) :=
  ⟨fun _ _ => rfl, fun _ _ => rfl⟩

/-- What the result's block holds after point `t`. -/
def outBlock (c : Dev nD) (t : Fin cfg0.N) : Vec F S688x1024 .f32 :=
  if t.val < 8 then iblk m c 0 t
  else blockOut (iblk m c 0 t) (iblk m c 1 t) (iblk m c 4 t)
    (castIn m c) (castOut m c)

/-- The scratches before point `n`: filled as far as the points before have loaded. -/
def inv (c : Dev nD) (n : ℕ) : sProp 𝕄 :=
  iprop(∃ s0 s1, ⌜Filled m c n s0 s1⌝ ∗ owns (c : Thread nD τ) (Memref.whole cc0_scratch0) fullShare s0
    ∗ owns (c : Thread nD τ) (Memref.whole cc0_scratch1) fullShare s1 ∗ (∃ r, prngReg c r))

/-- The data of the pipeline: every input's buffer at its block, the output's at `outBlock`, the scratches filling. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock m c t
  Φ n := inv m c n.val
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outBlock m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

abbrev stg0 (t : Fin cfg0.N) := win0_0.stage (cfg0.slots t 0)
abbrev stg1 (t : Fin cfg0.N) := win0_1.stage (cfg0.slots t 1)
abbrev stg2 (t : Fin cfg0.N) := win0_2.stage (cfg0.slots t 2)
abbrev stg3 (t : Fin cfg0.N) := win0_3.stage (cfg0.slots t 3)
abbrev stg4 (t : Fin cfg0.N) := win0_4.stage (cfg0.slots t 4)
abbrev stg5 (t : Fin cfg0.N) := win0_5.stage (cfg0.slots t 5)

/-- The output is stored at every point. -/
theorem idle_out : ∀ t : Fin cfg0.N, cfg0.idle 5 (cfg0.grid.coords t) = false :=
  (by decide +kernel : ∀ t : Fin grid0.N, idle0 5 (grid0.coords t) = false)

theorem leaves_0 (c : Dev nD) (t : Fin cfg0.N) :
    (dats m 0 c).leavesExact 0 t = owns (c : Thread nD τ) (stg0 t) fullShare (iblk m c 0 t) := by
  unfold Dat.leavesExact
  rw [show cfg0.idle 0 (cfg0.grid.coords t) = false from rfl, after_0]
theorem leaves_1 (c : Dev nD) (t : Fin cfg0.N) :
    (dats m 0 c).leavesExact 1 t = owns (c : Thread nD τ) (stg1 t) fullShare (iblk m c 1 t) := by
  unfold Dat.leavesExact
  rw [show cfg0.idle 1 (cfg0.grid.coords t) = false from rfl, after_1]
theorem leaves_2 (c : Dev nD) (t : Fin cfg0.N) :
    (dats m 0 c).leavesExact 2 t = owns (c : Thread nD τ) (stg2 t) fullShare (iblk m c 2 t) := by
  unfold Dat.leavesExact
  rw [show cfg0.idle 2 (cfg0.grid.coords t) = false from rfl, after_2]
theorem leaves_3 (c : Dev nD) (t : Fin cfg0.N) :
    (dats m 0 c).leavesExact 3 t = owns (c : Thread nD τ) (stg3 t) fullShare (iblk m c 3 t) := by
  unfold Dat.leavesExact
  rw [show cfg0.idle 3 (cfg0.grid.coords t) = false from rfl, after_3]
theorem leaves_4 (c : Dev nD) (t : Fin cfg0.N) :
    (dats m 0 c).leavesExact 4 t = owns (c : Thread nD τ) (stg4 t) fullShare (iblk m c 4 t) := by
  unfold Dat.leavesExact
  rw [show cfg0.idle 4 (cfg0.grid.coords t) = false from rfl, after_4]
theorem leaves_5 (c : Dev nD) (t : Fin cfg0.N) :
    (dats m 0 c).leavesExact 5 t = owns (c : Thread nD τ) (stg5 t) fullShare (outBlock m c t) := by
  unfold Dat.leavesExact
  rw [show cfg0.idle 5 (cfg0.grid.coords t) = false from idle_out t, after_5]

theorem load_iff : ∀ t : Fin cfg0.N, k0_cond1 (grid0.coords t) = 1#1 ↔ t.val < 8 :=
  (by decide +kernel : ∀ t : Fin grid0.N, k0_cond1 (grid0.coords t) = 1#1 ↔ t.val < 8)
theorem work_iff : ∀ t : Fin cfg0.N, k0_cond2 (grid0.coords t) = 1#1 ↔ 8 ≤ t.val :=
  (by decide +kernel : ∀ t : Fin grid0.N, k0_cond2 (grid0.coords t) = 1#1 ↔ 8 ≤ t.val)
theorem rows_in : ∀ t : Fin cfg0.N, k0_off1 (grid0.coords t) = ![128 * t.val, 0] :=
  (by decide +kernel : ∀ t : Fin grid0.N, k0_off1 (grid0.coords t) = ![128 * t.val, 0])
theorem rows_out : ∀ t : Fin cfg0.N, k0_off2 (grid0.coords t) = ![352 * t.val, 0] :=
  (by decide +kernel : ∀ t : Fin grid0.N, k0_off2 (grid0.coords t) = ![352 * t.val, 0])

/-- What the body is given at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d)))

/-- and what it gives back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 2400000 in
/-- The body at a point takes what it is given to what it gives back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, leaves_0, leaves_1, leaves_2, leaves_3, leaves_4, leaves_5]
  rw [show (dats m 0 c).owesAt () t.succ = (dats m 0 c).owesAt () t.castSucc from rfl,
    show (dats m 0 c).Φ t.castSucc = inv m c t.val from rfl, show (dats m 0 c).Φ t.succ = inv m c (t.val + 1) from rfl]
  unfold inv
  iintro ⟨⟨%s0, %s1, %hfill, HS0, HS1, Hg⟩, Ho, ⟨%d0, H0⟩, ⟨%d1, H1⟩, ⟨%d2, H2⟩, ⟨%d3, H3⟩, ⟨%d4, H4⟩, ⟨%d5, H5⟩⟩
  by_cases h : t.val < 8
  · rw [show outBlock m c t = iblk m c 0 t from if_pos h]
    iapply ((run_load c (grid0.coords t) _ _ _ _ _ _ _ _ _ _ _ _ _ _ _ _ ((load_iff t).mpr h)
      (fun h' => absurd ((work_iff t).mp h') (by omega)) (rows_in t) (rows_out t) (iblk m c 0 t) (iblk m c 1 t) (iblk m c 2 t) (iblk m c 3 t) (iblk m c 4 t) s0 s1) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, ⟨%e0, %he0, HS0⟩, ⟨%e1, %he1, HS1⟩⟩
    isplitl [HS0 HS1 Hg]
    · iexists e0, e1
      isplitr; · ipureintro; exact filled_succ m c t s0 e0 s1 e1 hfill he0 he1
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5
  · obtain ⟨rfl, rfl⟩ := filled_full m c (by omega) s0 s1 hfill
    rw [show outBlock m c t = _ from if_neg h]
    iapply ((run_work c (grid0.coords t) _ _ _ _ _ _ _ _ _ _ _ _ _ _ _ _ (fun h' => h ((load_iff t).mp h'))
      ((work_iff t).mpr (by omega)) (iblk m c 0 t) (iblk m c 1 t) (iblk m c 2 t) (iblk m c 3 t) (iblk m c 4 t) (castIn m c) (castOut m c)) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HS0 HS1 Hg]
    · iexists (castIn m c), (castOut m c)
      isplitr; · ipureintro; exact filled_of_full m c _
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at the pipeline's label is the body. -/
theorem body_row (t : Fin cfg0.N) : defs₀ .tc cfg0.body (cfg0.bodyArgs t (cfg0.slots t)) = bodyAt0 (F := F) t := by
  unfold defs₀; rw [Defs.onTc_tc]

theorem body_obligation (c : Dev nD) :
    BodyObligation (dats (F := F) m 0 c) (defs₀ (F := F)) Variants.none () Set.univ := fun t => by
  rw [bigSep_W0, bigSep_W0, body_row]
  exact triple_restated (sound_body m c t) rfl .rfl fun _ => .rfl

/-- The scratches at anything are the scratches before the first point. -/
theorem inv_in (c : Dev nD) : Pipeline.ΦA spec0 c ⊢ (dats m 0 c).Φ 0 := by
  rw [show (dats m 0 c).Φ 0 = inv m c 0 from rfl]
  unfold inv Pipeline.ΦA
  rw [scopedRest0_eq]
  simp only [owns_whole]
  iintro ⟨⟨⟨%s0, HS0⟩, ⟨%s1, HS1⟩⟩, Hg⟩
  iexists s0, s1
  isplitr; · ipureintro; exact filled_zero m c _ _
  isplitl [HS0]; · iexact HS0
  isplitl [HS1]; · iexact HS1
  iexact Hg

/-- The filled scratches are scratches at something. -/
theorem inv_out (c : Dev nD) : (dats m 0 c).Φ (Fin.last cfg0.N) ⊢ Pipeline.ΦA spec0 c := by
  rw [show (dats m 0 c).Φ (Fin.last cfg0.N) = inv m c cfg0.N from rfl]
  unfold inv Pipeline.ΦA
  rw [scopedRest0_eq]
  simp only [owns_whole]
  iintro ⟨%s0, %s1, -, HS0, HS1, Hg⟩
  isplitl [HS0 HS1]
  · isplitl [HS0]
    · iexists s0; iexact HS0
    · iexists s1; iexact HS1
  iexact Hg

set_option backward.isDefEq.respectTransparency.types false in
/-- The whole run: the arrays end at what the write-backs leave, and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl) (howed := fun _ _ => rfl) (V := V m)
    (hmain := hmain m Variants.none) (hA := A_eq m) (hin := inv_in m) (hout := inv_out m) (hQ' := fun _ h => h)

/-- Every run ends with the arguments as they were and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- Every run ends with the result's array at what the write-backs leave. -/
theorem result_run : θ_run defs (onTc (τ := τ) (main (F := F))) ⟨m, fun _ => 0, ρ⟩ (fun r => ∀ c : Dev nD,
      r.2.mem ((c.tc : Thread nD τ).loc main_v1) = (dats m 0 c).arrAt 5 cfg0.N) :=
  (θ_run defs _ _).mono (fun _ h c => (h.1 c).1 5) (run_main m ρ)

end Cert.KernelFfn1Ideal.Ffn

end
-- ==== Proof.Ffn1.Value.lean ====
module

public import proofs.«01_k».proof.Proof.Ffn1.Run
public import proofs.«01_k».proof.Proof.Mix.Row
public import Idealize.ShloMosaic.Lib.Pipeline.ValueKit

/-! The last layer's first feed-forward call's result over the extended reals, as a function of its arguments, row by row. -/

@[expose] public section

set_option maxRecDepth 16384

noncomputable section

namespace Cert.KernelFfn1Ideal.Ffn

open Idealize.ShloMosaic Idealize.ShloMosaic.TcCoe
open Idealize.ShloMosaic.Pipeline (Dat Cfg Window)
open Cert.KernelFfn1Ideal.Gen

/-! ### The body's payloads, row by row -/

/-- The feed-forward layer's row, normalised, before it is halved and added. -/
theorem pay4_apply (x0 : Vec Ideal S688x1024 .f32) (x1 x4 : Vec Ideal S1x1x1024 .f32) (s0 : Vec Ideal S1024x5632 .bf16)
    (s1 : Vec Ideal S2816x1024 .bf16) (r : Fin 688) (j : Fin 1024) :
    k0_pay4 x0 x1 s0 s1 x4 (ix2 r j)
      = Row.rms (Row.swiglu (Row.rms (fun k => x0 (ix2 r k)) (fun k => x1 (ix3 0 0 k))) (fun k q => s0 (ix2 k q))
          (fun q k => s1 (ix2 q k))) (fun k => x4 (ix3 0 0 k)) j := by
  pointwise [k0_pay4]
  rfl

/-- The stored block at row `r`: the feed-forward layer of the residual row. -/
theorem blockOut_apply (x0 : Vec Ideal S688x1024 .f32) (x1 x4 : Vec Ideal S1x1x1024 .f32) (s0 : Vec Ideal S1024x5632 .bf16)
    (s1 : Vec Ideal S2816x1024 .bf16) (r : Fin 688) (j : Fin 1024) :
    blockOut x0 x1 x4 s0 s1 (ix2 r j)
      = Row.ffn (fun k => x0 (ix2 r k)) (fun k => x1 (ix3 0 0 k)) (fun k => x4 (ix3 0 0 k)) (fun k q => s0 (ix2 k q))
          (fun q k => s1 (ix2 q k)) j := by
  pointwise [blockOut, k0_pay3]
  rw [pay4_apply]
  rfl

/-! ### The blocks, read off the arguments -/

variable (m : (ℓ : Loc nD τ sig) → Buf (Elt Ideal) ℓ)

/-- Where the blocks of point `t` begin. -/
theorem idx_in : ∀ t : Fin cfg0.N, win0_0.index t = ![(t.val - 8) / 3 * 2112 + (t.val - 8) % 3 * 688, 0]
    ∧ win0_1.index t = ![6, 0, 0] ∧ win0_2.index t = ![1, min t.val 7, 0] ∧ win0_3.index t = ![1, min t.val 7, 0]
    ∧ win0_4.index t = ![7, 0, 0] ∧ win0_5.index t = ![t.val - 8, 0] := by decide +kernel

/-- The row of the padded array where the block of point `t` begins, `r` rows on. -/
def row (t : Fin cfg0.N) (r : Fin 688) : Fin 16896 :=
  ⟨(t.val - 8) / 3 * 2112 + (t.val - 8) % 3 * 688 + r.val, by
    have := lt_of_lt_of_eq t.isLt N_0; omega⟩

/-- The residual block is 688 rows of the padded residual stream. -/
theorem blk_0 (c : Dev nD) (t : Fin cfg0.N) (r : Fin 688) (k : Fin 1024) :
    (iblk m c 0 t : Vec Ideal S688x1024 .f32) (ix2 r k) = m ((c : Thread nD τ).loc main_arg0) (ix2 (row t r) k) := by
  blk_ext [iblk, V_main_arg0, row]
  · exact (Window.rect_emb_val_off win0_0 t (ix2 r k) 0).trans (by rw [(idx_in t).1]; rfl)
  · exact (Window.rect_emb_val_off win0_0 t (ix2 r k) 1).trans (by rw [(idx_in t).1]; exact Nat.zero_add _)

/-! The norm rows' blocks are rows 0 and 1 of layer 1's norm weights. -/

theorem blk_1 (c : Dev nD) (t : Fin cfg0.N) (k : Fin 1024) :
    (iblk m c 1 t : Vec Ideal S1x1x1024 .f32) (ix3 0 0 k) = m ((c : Thread nD τ).loc main_arg1) (ix3 1 0 k) := by
  blk_point [iblk, idx_in t]

theorem blk_4 (c : Dev nD) (t : Fin cfg0.N) (k : Fin 1024) :
    (iblk m c 4 t : Vec Ideal S1x1x1024 .f32) (ix3 0 0 k) = m ((c : Thread nD τ).loc main_arg1) (ix3 1 1 k) := by
  blk_point [iblk, idx_in t]

/-- A loading point's tile of the first weight. -/
theorem blk_2 (c : Dev nD) (t : Fin cfg0.N) (ht : t.val < 8) (r : Fin 128) (q : Fin 5632) :
    (iblk m c 2 t : Vec Ideal S1x128x5632 .f32) (ix3 0 r q)
      = m ((c : Thread nD τ).loc main_arg2) (ix3 1 ⟨t.val * 128 + r.val, by omega⟩ q) := by
  blk_ext [iblk, V_main_arg2, idx_in t]

/-- A loading point's tile of the second weight. -/
theorem blk_3 (c : Dev nD) (t : Fin cfg0.N) (ht : t.val < 8) (r : Fin 352) (k : Fin 1024) :
    (iblk m c 3 t : Vec Ideal S1x352x1024 .f32) (ix3 0 r k)
      = m ((c : Thread nD τ).loc main_arg3) (ix3 1 ⟨t.val * 352 + r.val, by omega⟩ k) := by
  blk_ext [iblk, V_main_arg3, idx_in t]

/-- The cast of a tile of the first weight, at an index. -/
theorem pay1_apply (x : Vec Ideal S1x128x5632 .f32) (r : Fin 128) (q : Fin 5632) : k0_pay1 x (ix2 r q) = x (ix3 0 r q) := by
  pointwise [k0_pay1]

/-- The cast of a tile of the second weight, at an index. -/
theorem pay2_apply (x : Vec Ideal S1x352x1024 .f32) (r : Fin 352) (k : Fin 1024) : k0_pay2 x (ix2 r k) = x (ix3 0 r k) := by
  pointwise [k0_pay2]

/-- The first scratch, filled, is layer 1 of the first weight. -/
theorem castIn_apply (c : Dev nD) (k : Fin 1024) (q : Fin 5632) :
    castIn m c (ix2 k q) = m ((c : Thread nD τ).loc main_arg2) (ix3 1 k q) := by
  refine (pay1_apply _ ⟨k.val % 128, Nat.mod_lt _ (by decide)⟩ q).trans
    ((blk_2 m c _ (Nat.div_lt_of_lt_mul k.isLt) _ q).trans ?_)
  congr 2
  exact Fin.ext (Nat.div_add_mod' _ _)

/-- The second scratch, filled, is layer 1 of the second weight. -/
theorem castOut_apply (c : Dev nD) (q : Fin 2816) (k : Fin 1024) :
    castOut m c (ix2 q k) = m ((c : Thread nD τ).loc main_arg3) (ix3 1 q k) := by
  refine (pay2_apply _ ⟨q.val % 352, Nat.mod_lt _ (by decide)⟩ k).trans
    ((blk_3 m c _ (Nat.div_lt_of_lt_mul q.isLt) _ k).trans ?_)
  congr 2
  exact Fin.ext (Nat.div_add_mod' _ _)

/-! ### The result -/

/-- The row of the padded array that row `r` of the result is computed from. -/
def src (r : Fin 16512) : Fin 16896 := ⟨r.val / 2064 * 2112 + r.val % 2064, by omega⟩

/-- The call's result as a function of its arguments: each row the feed-forward layer of its residual row. -/
def result (c : Dev nD) : Vec Ideal S16512x1024 .f32 := fun i =>
  Row.ffn (fun k => m ((c : Thread nD τ).loc main_arg0) (ix2 (src (i 0)) k))
    (fun k => m ((c : Thread nD τ).loc main_arg1) (ix3 1 0 k)) (fun k => m ((c : Thread nD τ).loc main_arg1) (ix3 1 1 k))
    (fun k q => m ((c : Thread nD τ).loc main_arg2) (ix3 1 k q)) (fun q k => m ((c : Thread nD τ).loc main_arg3) (ix3 1 q k))
    (i 1)

/-- A working point's block is the result's block of that point. -/
theorem outBlock_apply (c : Dev nD) (t : Fin cfg0.N) (ht : 8 ≤ t.val) (r : Fin 688) (j : Fin 1024) (i : S16512x1024.Idx)
    (h0 : (i 0).val = (t.val - 8) * 688 + r.val) (h1 : (i 1).val = j.val) :
    outBlock m c t (ix2 r j) = result m c i := by
  have hs : src (i 0) = row t r := Fin.ext (by
    show (i 0).val / 2064 * 2112 + (i 0).val % 2064 = (t.val - 8) / 3 * 2112 + (t.val - 8) % 3 * 688 + r.val
    have := r.isLt
    omega)
  have hj : i 1 = j := Fin.ext h1
  unfold outBlock result
  rw [if_neg (by omega), blockOut_apply, hs, hj]
  simp only [blk_0, blk_1, blk_4, castIn_apply, castOut_apply]

theorem flush_iff : ∀ t : Fin cfg0.N, (cfg0.win 5).flush t = true → 8 ≤ t.val := by decide +kernel

/-- After the run the result's array holds `result`. -/
theorem result_eq (c : Dev nD) : (dats m 0 c).arrAt 5 cfg0.N = result m c := by
  refine (dats m 0 c).arrAt_eq_of_covers 5 _ (by decide +kernel) fun t hf y => ?_
  rw [after_5]
  have hy : (outBlock m c t : S688x1024.Idx → Ideal .f32) y = outBlock m c t (ix2 (y 0) (y 1)) :=
    congrArg _ (funext fun a => by fin_cases a <;> rfl)
  refine hy.trans (outBlock_apply m c t (flush_iff t hf) (y 0) (y 1) _ ?_ ?_)
  · exact (Window.rect_emb_val win0_5 t y 0).trans (by rw [(idx_in t).2.2.2.2.2]; rfl)
  · exact (Window.rect_emb_val win0_5 t y 1).trans (by rw [(idx_in t).2.2.2.2.2]; exact Nat.zero_add _)

end Cert.KernelFfn1Ideal.Ffn
-- ==== Proof.Ffn1.Ref.lean ====
module

public import proofs.«01_k».proof.Proof.Gen.ReferenceFfn1Ideal.Read
public import proofs.«01_k».proof.Proof.Mix.Row

/-! What the reference of the last layer's first feed-forward call computes, row by row, over the extended reals. -/

@[expose] public section

set_option maxRecDepth 16384

noncomputable section

namespace Cert.ReferenceFfn1Ideal.Ffn

open Idealize.ShloMosaic
open Cert.ReferenceFfn1Ideal Cert.ReferenceFfn1Ideal.Read

variable (x0 : Vec Ideal S16896x1024 .f32) (x1 : Vec Ideal S2x6x1024 .f32) (x2 : Vec Ideal S2x1024x5632 .f32)
  (x3 : Vec Ideal S2x2816x1024 .f32)

/-- The row of the padded array that holds position `p` of sequence `b`. -/
def pos (b : Fin 8) (p : Fin 2064) : Fin 16896 := ⟨b.val * 2112 + p.val, by omega⟩

/-- The row the layer takes. -/
def hrow (b : Fin 8) (p : Fin 2064) : Fin 1024 → EReal := fun k => x0 (ix2 (pos b p) k)

theorem hrow_apply (b : Fin 8) (p : Fin 2064) (j : Fin 1024) :
    val_main_v1 (F := Ideal) x0 (ix3 b p j) = hrow x0 b p j := by
  pointwise [val_main_v1, val_main_v0]
  rfl

/-- The row, normalised for the feed-forward layer. -/
theorem v18_apply (b : Fin 8) (p : Fin 2064) (j : Fin 1024) :
    val_main_v18 (F := Ideal) x0 x1 (ix3 b p j)
      = Row.rms (hrow x0 b p) (fun k => x1 (ix3 1 0 k)) j := by
  pointwise [val_main_v18, val_main_v17, val_main_v16, val_main_v15, val_main_v14, val_main_v13, val_main_v12, val_main_v11, val_main_v10, val_main_v9, val_main_v8, val_main_v7,
    val_main_v6, val_main_v5, val_main_v4, val_main_v3, val_main_v2, val_main_cst, val_main_cst_0, val_main_cst_1, hrow_apply]
  rfl

/-- The hidden row's left half. -/
theorem v24_apply (b : Fin 8) (p : Fin 2064) (q : Fin 2816) :
    val_main_v24 (F := Ideal) x0 x1 x2 (ix3 b p q)
      = Row.gate (Row.rms (hrow x0 b p) (fun k => x1 (ix3 1 0 k))) (fun k j => x2 (ix3 1 k j)) q := by
  pointwise [val_main_v24, val_main_v23, val_main_v20, val_main_v19, v18_apply]
  rfl

/-- The hidden row's right half. -/
theorem v25_apply (b : Fin 8) (p : Fin 2064) (q : Fin 2816) :
    val_main_v25 (F := Ideal) x0 x1 x2 (ix3 b p q)
      = Row.up (Row.rms (hrow x0 b p) (fun k => x1 (ix3 1 0 k))) (fun k j => x2 (ix3 1 k j)) q := by
  pointwise [val_main_v25, val_main_v23, val_main_v20, val_main_v19, v18_apply]
  rfl

/-- The logistic function of the left half, as the reference writes it out. -/
theorem sig_apply (b : Fin 8) (p : Fin 2064) (q : Fin 2816) :
    val_main_call0_v5 (F := Ideal) x0 x1 x2 (ix3 b p q) = Ideal.logistic (val_main_v24 (F := Ideal) x0 x1 x2 (ix3 b p q)) := by
  pointwise [val_main_call0_v5, val_main_call0_v4, val_main_call0_v3, val_main_call0_v2, val_main_call0_v1,
    val_main_call0_v0, val_main_call0_cst, val_main_call0_cst_0]
  rfl

/-- The feed-forward layer's row before its norm. -/
theorem v28_apply (b : Fin 8) (p : Fin 2064) (j : Fin 1024) :
    val_main_v28 (F := Ideal) x0 x1 x2 x3 (ix3 b p j)
      = Row.swiglu (Row.rms (hrow x0 b p) (fun k => x1 (ix3 1 0 k))) (fun k j => x2 (ix3 1 k j))
          (fun k j => x3 (ix3 1 k j)) j := by
  pointwise [val_main_v28, val_main_v27, val_main_v26, val_main_v22, val_main_v21]
  simp only [sig_apply, v24_apply, v25_apply]
  rfl

/-- The layer's row: half the normalised feed-forward value added. -/
theorem v46_apply (b : Fin 8) (p : Fin 2064) (j : Fin 1024) :
    val_main_v46 (F := Ideal) x0 x1 x2 x3 (ix3 b p j)
      = Row.ffn (hrow x0 b p) (fun k => x1 (ix3 1 0 k)) (fun k => x1 (ix3 1 1 k)) (fun k j => x2 (ix3 1 k j))
          (fun k j => x3 (ix3 1 k j)) j := by
  pointwise [val_main_v46, val_main_v45, val_main_v44, val_main_v43, val_main_v42, val_main_v41, val_main_v40, val_main_v39, val_main_v38,
    val_main_v37, val_main_v36, val_main_v35, val_main_v34, val_main_v33, val_main_v32, val_main_v31, val_main_v30, val_main_v29, val_main_v3, val_main_v2,
    val_main_cst_2, val_main_cst_3, val_main_cst_4, val_main_cst_5, hrow_apply, v28_apply]
  rfl

/-- The result's row `r` is the layer's row of position `r % 2064` of sequence `r / 2064`. -/
theorem v47_apply (r : Fin 16512) (j : Fin 1024) :
    val_main_v47 (F := Ideal) x0 x1 x2 x3 (ix2 r j)
      = val_main_v46 (F := Ideal) x0 x1 x2 x3 (ix3 ⟨r.val / 2064, by omega⟩ ⟨r.val % 2064, by omega⟩ j) := by
  pointwise [val_main_v47]

end Cert.ReferenceFfn1Ideal.Ffn
-- ==== Proof.Ffn1.Agree.lean ====
module

public import proofs.«01_k».proof.Defs
public import proofs.«01_k».proof.Proof.Ffn1.Value
public import proofs.«01_k».proof.Proof.Ffn1.Ref
public import proofs.«01_k».proof.Proof.Gen.KernelFfn1

/-! The last layer's first feed-forward call and its reference leave one result from the same arguments. -/

@[expose] public section

set_option maxRecDepth 16384

noncomputable section

namespace Cert.Ffn1

open Idealize.ShloMosaic Idealize.SL.Sem

/-- The reference's result, on the arguments the kernel reads, is the kernel's. -/
theorem ref_result (m : (ℓ : Loc KernelFfn1Ideal.nD KernelFfn1Ideal.τ KernelFfn1Ideal.sig) → Buf (Elt Ideal) ℓ) (c : Dev KernelFfn1Ideal.nD) :
    ReferenceFfn1Ideal.Read.val_main_v47 (F := Ideal) (m ((c.tc : Thread KernelFfn1Ideal.nD KernelFfn1Ideal.τ).loc KernelFfn1Ideal.main_arg0))
      (m ((c.tc : Thread KernelFfn1Ideal.nD KernelFfn1Ideal.τ).loc KernelFfn1Ideal.main_arg1))
      (m ((c.tc : Thread KernelFfn1Ideal.nD KernelFfn1Ideal.τ).loc KernelFfn1Ideal.main_arg2))
      (m ((c.tc : Thread KernelFfn1Ideal.nD KernelFfn1Ideal.τ).loc KernelFfn1Ideal.main_arg3))
      = KernelFfn1Ideal.Ffn.result m c := by
  funext i
  rw [show i = ix2 (i 0) (i 1) from funext fun a => by fin_cases a <;> rfl]
  exact (ReferenceFfn1Ideal.Ffn.v47_apply _ _ _ _ (i 0) (i 1)).trans (ReferenceFfn1Ideal.Ffn.v46_apply _ _ _ _ _ _ _)

/-- From the same arguments the kernel and the reference end with the same result, over the extended reals. -/
theorem algebraic [hKernelFfn1Ideal : KernelFfn1Ideal.Facts] [hReferenceFfn1Ideal : ReferenceFfn1Ideal.Facts] :
    algebraic_KernelFfn1Ideal_ReferenceFfn1Ideal := fun m g m' g' _ hin =>
  ⟨KernelFfn1Ideal.Ffn.result m,
    (θ_run _ _ _).mono (fun r h c => ⟨(h.1 c).trans (KernelFfn1Ideal.Ffn.result_eq m c), h.2.1 c⟩)
      (θ_run_and (KernelFfn1Ideal.Ffn.result_run m g) (KernelFfn1Ideal.Ffn.frame m g)),
    (θ_run _ _ _).mono (fun r h c => ⟨by
        obtain ⟨h0, h1, h2, h3⟩ := hin c
        have hr := ref_result m c
        rw [← h0, ← h1, ← h2, ← h3] at hr
        exact (h c).1.trans ((ReferenceFfn1Ideal.Read.val_main_v47_eq _ c).trans hr), (h c).2⟩)
      (ReferenceFfn1Ideal.Value.run m' g')⟩

/-- Every run of the reference ends with the arguments as they were and the counters, of which it has none, at zero. -/
theorem frame_ref [hReferenceFfn1Ideal : ReferenceFfn1Ideal.Facts] : quiescent_ReferenceFfn1Ideal := fun m ρ _ =>
  (θ_run _ _ _).mono (fun r h => ⟨fun c => (h c).2, sem_eq_zero_of_no_sems (by decide) r.2⟩)
    (ReferenceFfn1Ideal.Value.run m ρ)

/-- The kernel's program is the ideal kernel's, read at any memory. -/
theorem same_program (m : (ℓ : Loc KernelFfn1.nD KernelFfn1.τ KernelFfn1.sig) → Buf (Elt Bits) ℓ) (ρ : Dev KernelFfn1.nD → PrngReg) :
    θ_run (KernelFfn1.defs (F := Bits)) (onTc (τ := KernelFfn1.τ) (KernelFfn1.main (F := Bits))) ⟨m, fun _ => 0, ρ⟩
      = θ_run (KernelFfn1Ideal.defs (F := Bits)) (onTc (τ := KernelFfn1Ideal.τ) (KernelFfn1Ideal.main (F := Bits))) ⟨m, fun _ => 0, ρ⟩ := by
  sl_kernel_rfl

/-- Every run of the kernel, at the machine's floats, ends with the arguments as they were and the counters at zero. -/
theorem frame_kernel : quiescent_KernelFfn1 (hKernelFfn1 := KernelFfn1.Gen.facts) := fun m ρ _ => by
  rw [same_program]
  exact KernelFfn1Ideal.Ffn.frame (F := Bits) m ρ

end Cert.Ffn1
-- ==== Proof.Embed.Body.lean ====
module

public import proofs.«01_k».proof.Proof.Gen.KernelEmbedIdeal.Skeleton
public import proofs.«01_k».proof.Proof.Gen.KernelEmbedIdeal.Frame
public import proofs.«01_k».proof.Proof.Tiles
public import Idealize.ShloMosaic.Lib.Claim

/-! The kernel body of the first feed-forward call, which prepends the meta tokens, run once per case of its conditionals. -/

@[expose] public section

set_option maxRecDepth 16384

noncomputable section

namespace Cert.KernelEmbedIdeal.Embed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelEmbedIdeal.Gen Cert.Tiles

variable {F : FTy → Type} [FloatOps F]

local notation "𝕄" => MT nD τ sig Unit (Elt F) ℕ (UR sig nD τ) ℕ

/-- What a working point leaves in the output block: of the point's number, the block of embeddings, the meta tokens, the
two norm rows and the two cast weights. -/
def blockOut (a : BitVec 32) (x0 : Vec F S688x1024 .f32) (x1 : Vec F S16x1024 .f32) (x2 x5 : Vec F S1x1x1024 .f32)
    (s0 : Vec F S1024x5632 .bf16) (s1 : Vec F S2816x1024 .bf16) : Vec F S688x1024 .f32 :=
  k0_pay4 (k0_pay5 a x0 x1) (k0_pay6 a x0 x1 x2 s0 s1) (k0_pay7 x5) (k0_pay8 a x0 x1 x2 s0 s1)

set_option maxHeartbeats 1000000 in
/-- At a loading point the body casts its two weight tiles into the rows of the two scratches that are theirs, and
copies the block of embeddings to the output block. -/
theorem run_load (c : Dev nD) (i : grid0.Coords)
    (arg1 : Memref sig .tc .hbm S16896x1024 .f32) (harg1 : arg1.IsWhole)
    (arg2 : Memref sig .tc .vmem S688x1024 .f32) (harg2 : arg2.IsWhole)
    (arg3 : Memref sig .tc .vmem S16x1024 .f32) (harg3 : arg3.IsWhole)
    (arg4 : Memref sig .tc .vmem S1x1x1024 .f32) (harg4 : arg4.IsWhole)
    (arg5 : Memref sig .tc .vmem S1x128x5632 .f32) (harg5 : arg5.IsWhole)
    (arg6 : Memref sig .tc .vmem S1x352x1024 .f32) (harg6 : arg6.IsWhole)
    (arg7 : Memref sig .tc .vmem S1x1x1024 .f32) (harg7 : arg7.IsWhole)
    (arg8 : Memref sig .tc .vmem S688x1024 .f32) (harg8 : arg8.IsWhole)
    (arg9 : Memref sig .tc .vmem S1024x5632 .bf16) (harg9 : arg9.IsWhole)
    (arg10 : Memref sig .tc .vmem S2816x1024 .bf16) (harg10 : arg10.IsWhole)
    (h1 : k0_cond1 i = 1#1) (h2 : ¬ k0_cond2 i = 1#1) {o1 o2 : ℕ} (ho1 : k0_off1 i = ![o1, 0]) (ho2 : k0_off2 i = ![o2, 0])
    (x0 : Vec F S688x1024 .f32) (x1 : Vec F S16x1024 .f32) (x2 : Vec F S1x1x1024 .f32) (x3 : Vec F S1x128x5632 .f32) (x4 : Vec F S1x352x1024 .f32) (x5 : Vec F S1x1x1024 .f32)
    (s0 : Vec F S1024x5632 .bf16) (s1 : Vec F S2816x1024 .bf16)
    (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5 ∗ (∃ d, owns (c : Thread nD τ) arg8 fullShare d)
        ∗ owns (c : Thread nD τ) arg9 fullShare s0 ∗ owns (c : Thread nD τ) arg10 fullShare s1
        ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5 ∗ owns (c : Thread nD τ) arg8 fullShare (k0_pay3 x0)
            ∗ (∃ d, ⌜RowsPut o1 (k0_pay1 x3) s0 d⌝ ∗ owns (c : Thread nD τ) arg9 fullShare d)
            ∗ (∃ d, ⌜RowsPut o2 (k0_pay2 x4) s1 d⌝ ∗ owns (c : Thread nD τ) arg10 fullShare d)) -∗ K ⟨⟩))
      ⊢ wp frame (wpE (defs₀ (F := F)) Variants.none c none) E (cc0_ffn i arg1 harg1 arg2 harg2 arg3 harg3 arg4 harg4 arg5 harg5 arg6 harg6 arg7 harg7 arg8 harg8 arg9 harg9 arg10 harg10) K := by
  simp only [cc0_ffn_eq_skeleton]; unfold cc0_ffn_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, ⟨%g0, %hg0, HS0⟩, ⟨%g1, %hg1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg9.eq_unread hg0; obtain rfl := harg10.eq_unread hg1
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [HO]
  · iexists _; isplitr; swap; · iexact HO
    ipureintro
    rw [View.read_writes_full arg8.view fO inb_S688x1024_S688x1024_0_0, load_all harg2 x0 off2]
  isplitl [HS0]
  · iexists _; isplitr; swap
    · iexists _; isplitr; swap; · iexact HS0
      ipureintro; rfl
    ipureintro
    constructor
    · intro x y hx hy
      rw [load_all harg5 x3 off3]
      exact View.read_writes_cons_rows_of_mem _ _ _ _ _ y x ho1 hx hy
    · intro y hy
      rw [View.read_writes_cons_rows_of_not_mem _ _ _ _ _ y ho1 rfl hy, View.writes_nil, harg9.read_unread]
  iexists _; isplitr; swap
  · iexists _; isplitr; swap; · iexact HS1
    ipureintro; rfl
  ipureintro
  constructor
  · intro x y hx hy
    rw [load_all harg6 x4 off3]
    exact View.read_writes_cons_rows_of_mem _ _ _ _ _ y x ho2 hx hy
  · intro y hy
    rw [View.read_writes_cons_rows_of_not_mem _ _ _ _ _ y ho2 rfl hy, View.writes_nil, harg10.read_unread]

set_option maxHeartbeats 1000000 in
/-- At a working point the body leaves `blockOut` of its blocks and of the scratches in the output block. -/
theorem run_work (c : Dev nD) (i : grid0.Coords)
    (arg1 : Memref sig .tc .hbm S16896x1024 .f32) (harg1 : arg1.IsWhole)
    (arg2 : Memref sig .tc .vmem S688x1024 .f32) (harg2 : arg2.IsWhole)
    (arg3 : Memref sig .tc .vmem S16x1024 .f32) (harg3 : arg3.IsWhole)
    (arg4 : Memref sig .tc .vmem S1x1x1024 .f32) (harg4 : arg4.IsWhole)
    (arg5 : Memref sig .tc .vmem S1x128x5632 .f32) (harg5 : arg5.IsWhole)
    (arg6 : Memref sig .tc .vmem S1x352x1024 .f32) (harg6 : arg6.IsWhole)
    (arg7 : Memref sig .tc .vmem S1x1x1024 .f32) (harg7 : arg7.IsWhole)
    (arg8 : Memref sig .tc .vmem S688x1024 .f32) (harg8 : arg8.IsWhole)
    (arg9 : Memref sig .tc .vmem S1024x5632 .bf16) (harg9 : arg9.IsWhole)
    (arg10 : Memref sig .tc .vmem S2816x1024 .bf16) (harg10 : arg10.IsWhole)
    (h1 : ¬ k0_cond1 i = 1#1) (h2 : k0_cond2 i = 1#1)
    (x0 : Vec F S688x1024 .f32) (x1 : Vec F S16x1024 .f32) (x2 : Vec F S1x1x1024 .f32) (x3 : Vec F S1x128x5632 .f32) (x4 : Vec F S1x352x1024 .f32) (x5 : Vec F S1x1x1024 .f32)
    (s0 : Vec F S1024x5632 .bf16) (s1 : Vec F S2816x1024 .bf16)
    (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5 ∗ (∃ d, owns (c : Thread nD τ) arg8 fullShare d)
        ∗ owns (c : Thread nD τ) arg9 fullShare s0 ∗ owns (c : Thread nD τ) arg10 fullShare s1
        ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5 ∗ owns (c : Thread nD τ) arg8 fullShare (blockOut (BitVec.ofNat 32 (i 0).val) x0 x1 x2 x5 s0 s1)
            ∗ owns (c : Thread nD τ) arg9 fullShare s0 ∗ owns (c : Thread nD τ) arg10 fullShare s1) -∗ K ⟨⟩))
      ⊢ wp frame (wpE (defs₀ (F := F)) Variants.none c none) E (cc0_ffn i arg1 harg1 arg2 harg2 arg3 harg3 arg4 harg4 arg5 harg5 arg6 harg6 arg7 harg7 arg8 harg8 arg9 harg9 arg10 harg10) K := by
  simp only [cc0_ffn_eq_skeleton]; unfold cc0_ffn_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, ⟨%g0, %hg0, HS0⟩, ⟨%g1, %hg1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg9.eq_unread hg0; obtain rfl := harg10.eq_unread hg1
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [HO]
  · iexists _; isplitr; swap; · iexact HO
    ipureintro
    rw [View.read_writes_full arg8.view fO inb_S688x1024_S688x1024_0_0]
    sl_unfold_words
    rw [load_all harg9 s0 off2, load_all harg10 s1 off2, load_all harg2 x0 off2,
      load_all harg3 x1 off2, load_all harg4 x2 off3, load_all harg7 x5 off3]
    rfl
  isplitl [HS0]
  · iexists _; isplitr; · ipureintro; exact harg9.read_unread _
    iexact HS0
  iexists _; isplitr; · ipureintro; exact harg10.read_unread _
  iexact HS1

end Cert.KernelEmbedIdeal.Embed

end
-- ==== Proof.Embed.Run.lean ====
module

public import proofs.«01_k».proof.Proof.Embed.Body

/-! The run of the first feed-forward call, which prepends the meta tokens over any element semantics: the two scratches fill with the cast weights at
the loading points, and every working point leaves its block of the result. -/

@[expose] public section

set_option maxRecDepth 16384

noncomputable section

namespace Cert.KernelEmbedIdeal.Embed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelEmbedIdeal.Gen Cert.Tiles

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point whose tile holds row `r` of a weight that comes in tiles of `W` rows. -/
abbrev tilePt (R W r : ℕ) (hr : r < R) (hR : R = W * 8) : Fin cfg0.N :=
  ⟨r / W, by rw [show cfg0.N = 32 from N_0]; have := Nat.div_lt_of_lt_mul (hR ▸ hr); omega⟩

/-- The first weight, cast, row by row from the tiles of the loading points. -/
def castIn (c : Dev nD) : Vec F S1024x5632 .bf16 := fun y =>
  k0_pay1 (iblk m c 3 (tilePt 1024 128 (y 0).val (y 0).isLt rfl))
    (ix2 (⟨(y 0).val % 128, Nat.mod_lt _ (by decide)⟩ : Fin 128) (y 1))

/-- The second weight, cast, row by row from the tiles of the loading points. -/
def castOut (c : Dev nD) : Vec F S2816x1024 .bf16 := fun y =>
  k0_pay2 (iblk m c 4 (tilePt 2816 352 (y 0).val (y 0).isLt rfl))
    (ix2 (⟨(y 0).val % 352, Nat.mod_lt _ (by decide)⟩ : Fin 352) (y 1))

/-- After `n` points the first `n` tiles' rows of the scratches hold the cast weights. -/
def Filled (c : Dev nD) (n : ℕ) (s0 : Vec F S1024x5632 .bf16) (s1 : Vec F S2816x1024 .bf16) : Prop :=
  (∀ y : S1024x5632.Idx, (y 0).val < 128 * n → s0 y = castIn m c y)
    ∧ ∀ y : S2816x1024.Idx, (y 0).val < 352 * n → s1 y = castOut m c y

theorem filled_zero (c : Dev nD) (s0 : Vec F S1024x5632 .bf16) (s1 : Vec F S2816x1024 .bf16) : Filled m c 0 s0 s1 :=
  ⟨fun _ h => absurd h (by omega), fun _ h => absurd h (by omega)⟩

theorem filled_succ (c : Dev nD) (t : Fin cfg0.N) (s0 d0 : Vec F S1024x5632 .bf16) (s1 d1 : Vec F S2816x1024 .bf16)
    (h : Filled m c t.val s0 s1) (h0 : RowsPut (128 * t.val) (k0_pay1 (iblk m c 3 t)) s0 d0)
    (h1 : RowsPut (352 * t.val) (k0_pay2 (iblk m c 4 t)) s1 d1) : Filled m c (t.val + 1) d0 d1 := by
  refine ⟨fill_step (by decide) t.val _ (castIn m c) s0 d0 h0 h.1 ?_,
    fill_step (by decide) t.val _ (castOut m c) s1 d1 h1 h.2 ?_⟩
  · intro y hy
    unfold castIn
    rw [show tilePt 1024 128 (y 0).val (y 0).isLt rfl = t from Fin.ext hy]
  · intro y hy
    unfold castOut
    rw [show tilePt 2816 352 (y 0).val (y 0).isLt rfl = t from Fin.ext hy]

/-- From the eighth point on the scratches hold the cast weights whole. -/
theorem filled_full (c : Dev nD) {n : ℕ} (hn : 8 ≤ n) (s0 : Vec F S1024x5632 .bf16) (s1 : Vec F S2816x1024 .bf16)
    (h : Filled m c n s0 s1) : s0 = castIn m c ∧ s1 = castOut m c := by
  constructor
  · funext y
    have : (y 0).val < 1024 := (y 0).isLt
    exact h.1 y (by omega)
  · funext y
    have : (y 0).val < 2816 := (y 0).isLt
    exact h.2 y (by omega)

theorem filled_of_full (c : Dev nD) (n : ℕ) : Filled m c n (castIn m c) (castOut m c) :=
  ⟨fun _ _ => rfl, fun _ _ => rfl⟩

/-- What the result's block holds after point `t`. -/
def outBlock (c : Dev nD) (t : Fin cfg0.N) : Vec F S688x1024 .f32 :=
  if t.val < 8 then k0_pay3 (iblk m c 0 t)
  else blockOut (BitVec.ofNat 32 ((grid0.coords t) 0).val) (iblk m c 0 t) (iblk m c 1 t) (iblk m c 2 t) (iblk m c 5 t)
    (castIn m c) (castOut m c)

/-- The scratches before point `n`: filled as far as the points before have loaded. -/
def inv (c : Dev nD) (n : ℕ) : sProp 𝕄 :=
  iprop(∃ s0 s1, ⌜Filled m c n s0 s1⌝ ∗ owns (c : Thread nD τ) (Memref.whole cc0_scratch0) fullShare s0
    ∗ owns (c : Thread nD τ) (Memref.whole cc0_scratch1) fullShare s1 ∗ (∃ r, prngReg c r))

/-- The data of the pipeline: every input's buffer at its block, the output's at `outBlock`, the scratches filling. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock m c t
  Φ n := inv m c n.val
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outBlock m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

abbrev stg0 (t : Fin cfg0.N) := win0_0.stage (cfg0.slots t 0)
abbrev stg1 (t : Fin cfg0.N) := win0_1.stage (cfg0.slots t 1)
abbrev stg2 (t : Fin cfg0.N) := win0_2.stage (cfg0.slots t 2)
abbrev stg3 (t : Fin cfg0.N) := win0_3.stage (cfg0.slots t 3)
abbrev stg4 (t : Fin cfg0.N) := win0_4.stage (cfg0.slots t 4)
abbrev stg5 (t : Fin cfg0.N) := win0_5.stage (cfg0.slots t 5)
abbrev stg6 (t : Fin cfg0.N) := win0_6.stage (cfg0.slots t 6)

/-- The output is stored at every point. -/
theorem idle_out : ∀ t : Fin cfg0.N, cfg0.idle 6 (cfg0.grid.coords t) = false :=
  (by decide +kernel : ∀ t : Fin grid0.N, idle0 6 (grid0.coords t) = false)

theorem leaves_0 (c : Dev nD) (t : Fin cfg0.N) :
    (dats m 0 c).leavesExact 0 t = owns (c : Thread nD τ) (stg0 t) fullShare (iblk m c 0 t) := by
  unfold Dat.leavesExact
  rw [show cfg0.idle 0 (cfg0.grid.coords t) = false from rfl, after_0]
theorem leaves_1 (c : Dev nD) (t : Fin cfg0.N) :
    (dats m 0 c).leavesExact 1 t = owns (c : Thread nD τ) (stg1 t) fullShare (iblk m c 1 t) := by
  unfold Dat.leavesExact
  rw [show cfg0.idle 1 (cfg0.grid.coords t) = false from rfl, after_1]
theorem leaves_2 (c : Dev nD) (t : Fin cfg0.N) :
    (dats m 0 c).leavesExact 2 t = owns (c : Thread nD τ) (stg2 t) fullShare (iblk m c 2 t) := by
  unfold Dat.leavesExact
  rw [show cfg0.idle 2 (cfg0.grid.coords t) = false from rfl, after_2]
theorem leaves_3 (c : Dev nD) (t : Fin cfg0.N) :
    (dats m 0 c).leavesExact 3 t = owns (c : Thread nD τ) (stg3 t) fullShare (iblk m c 3 t) := by
  unfold Dat.leavesExact
  rw [show cfg0.idle 3 (cfg0.grid.coords t) = false from rfl, after_3]
theorem leaves_4 (c : Dev nD) (t : Fin cfg0.N) :
    (dats m 0 c).leavesExact 4 t = owns (c : Thread nD τ) (stg4 t) fullShare (iblk m c 4 t) := by
  unfold Dat.leavesExact
  rw [show cfg0.idle 4 (cfg0.grid.coords t) = false from rfl, after_4]
theorem leaves_5 (c : Dev nD) (t : Fin cfg0.N) :
    (dats m 0 c).leavesExact 5 t = owns (c : Thread nD τ) (stg5 t) fullShare (iblk m c 5 t) := by
  unfold Dat.leavesExact
  rw [show cfg0.idle 5 (cfg0.grid.coords t) = false from rfl, after_5]
theorem leaves_6 (c : Dev nD) (t : Fin cfg0.N) :
    (dats m 0 c).leavesExact 6 t = owns (c : Thread nD τ) (stg6 t) fullShare (outBlock m c t) := by
  unfold Dat.leavesExact
  rw [show cfg0.idle 6 (cfg0.grid.coords t) = false from idle_out t, after_6]

theorem load_iff : ∀ t : Fin cfg0.N, k0_cond1 (grid0.coords t) = 1#1 ↔ t.val < 8 :=
  (by decide +kernel : ∀ t : Fin grid0.N, k0_cond1 (grid0.coords t) = 1#1 ↔ t.val < 8)
theorem work_iff : ∀ t : Fin cfg0.N, k0_cond2 (grid0.coords t) = 1#1 ↔ 8 ≤ t.val :=
  (by decide +kernel : ∀ t : Fin grid0.N, k0_cond2 (grid0.coords t) = 1#1 ↔ 8 ≤ t.val)
theorem rows_in : ∀ t : Fin cfg0.N, k0_off1 (grid0.coords t) = ![128 * t.val, 0] :=
  (by decide +kernel : ∀ t : Fin grid0.N, k0_off1 (grid0.coords t) = ![128 * t.val, 0])
theorem rows_out : ∀ t : Fin cfg0.N, k0_off2 (grid0.coords t) = ![352 * t.val, 0] :=
  (by decide +kernel : ∀ t : Fin grid0.N, k0_off2 (grid0.coords t) = ![352 * t.val, 0])

/-- What the body is given at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d)))

/-- and what it gives back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 2400000 in
/-- The body at a point takes what it is given to what it gives back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, leaves_0, leaves_1, leaves_2, leaves_3, leaves_4, leaves_5, leaves_6]
  rw [show (dats m 0 c).owesAt () t.succ = (dats m 0 c).owesAt () t.castSucc from rfl,
    show (dats m 0 c).Φ t.castSucc = inv m c t.val from rfl, show (dats m 0 c).Φ t.succ = inv m c (t.val + 1) from rfl]
  unfold inv
  iintro ⟨⟨%s0, %s1, %hfill, HS0, HS1, Hg⟩, Ho, ⟨%d0, H0⟩, ⟨%d1, H1⟩, ⟨%d2, H2⟩, ⟨%d3, H3⟩, ⟨%d4, H4⟩, ⟨%d5, H5⟩, ⟨%d6, H6⟩⟩
  by_cases h : t.val < 8
  · rw [show outBlock m c t = k0_pay3 (iblk m c 0 t) from if_pos h]
    iapply ((run_load c (grid0.coords t) _ _ _ _ _ _ _ _ _ _ _ _ _ _ _ _ _ _ _ _ ((load_iff t).mpr h)
      (fun h' => absurd ((work_iff t).mp h') (by omega)) (rows_in t) (rows_out t) (iblk m c 0 t) (iblk m c 1 t) (iblk m c 2 t) (iblk m c 3 t) (iblk m c 4 t) (iblk m c 5 t) s0 s1) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, ⟨%e0, %he0, HS0⟩, ⟨%e1, %he1, HS1⟩⟩
    isplitl [HS0 HS1 Hg]
    · iexists e0, e1
      isplitr; · ipureintro; exact filled_succ m c t s0 e0 s1 e1 hfill he0 he1
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · obtain ⟨rfl, rfl⟩ := filled_full m c (by omega) s0 s1 hfill
    rw [show outBlock m c t = _ from if_neg h]
    iapply ((run_work c (grid0.coords t) _ _ _ _ _ _ _ _ _ _ _ _ _ _ _ _ _ _ _ _ (fun h' => h ((load_iff t).mp h'))
      ((work_iff t).mpr (by omega)) (iblk m c 0 t) (iblk m c 1 t) (iblk m c 2 t) (iblk m c 3 t) (iblk m c 4 t) (iblk m c 5 t) (castIn m c) (castOut m c)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · iexists (castIn m c), (castOut m c)
      isplitr; · ipureintro; exact filled_of_full m c _
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at the pipeline's label is the body. -/
theorem body_row (t : Fin cfg0.N) : defs₀ .tc cfg0.body (cfg0.bodyArgs t (cfg0.slots t)) = bodyAt0 (F := F) t := by
  unfold defs₀; rw [Defs.onTc_tc]

theorem body_obligation (c : Dev nD) :
    BodyObligation (dats (F := F) m 0 c) (defs₀ (F := F)) Variants.none () Set.univ := fun t => by
  rw [bigSep_W0, bigSep_W0, body_row]
  exact triple_restated (sound_body m c t) rfl .rfl fun _ => .rfl

/-- The scratches at anything are the scratches before the first point. -/
theorem inv_in (c : Dev nD) : Pipeline.ΦA spec0 c ⊢ (dats m 0 c).Φ 0 := by
  rw [show (dats m 0 c).Φ 0 = inv m c 0 from rfl]
  unfold inv Pipeline.ΦA
  rw [scopedRest0_eq]
  simp only [owns_whole]
  iintro ⟨⟨⟨%s0, HS0⟩, ⟨%s1, HS1⟩⟩, Hg⟩
  iexists s0, s1
  isplitr; · ipureintro; exact filled_zero m c _ _
  isplitl [HS0]; · iexact HS0
  isplitl [HS1]; · iexact HS1
  iexact Hg

/-- The filled scratches are scratches at something. -/
theorem inv_out (c : Dev nD) : (dats m 0 c).Φ (Fin.last cfg0.N) ⊢ Pipeline.ΦA spec0 c := by
  rw [show (dats m 0 c).Φ (Fin.last cfg0.N) = inv m c cfg0.N from rfl]
  unfold inv Pipeline.ΦA
  rw [scopedRest0_eq]
  simp only [owns_whole]
  iintro ⟨%s0, %s1, -, HS0, HS1, Hg⟩
  isplitl [HS0 HS1]
  · isplitl [HS0]
    · iexists s0; iexact HS0
    · iexists s1; iexact HS1
  iexact Hg

set_option backward.isDefEq.respectTransparency.types false in
/-- The whole run: the arrays end at what the write-backs leave, and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl) (howed := fun _ _ => rfl) (V := V m)
    (hmain := hmain m Variants.none) (hA := A_eq m) (hin := inv_in m) (hout := inv_out m) (hQ' := fun _ h => h)

/-- Every run ends with the arguments as they were and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- Every run ends with the result's array at what the write-backs leave. -/
theorem result_run : θ_run defs (onTc (τ := τ) (main (F := F))) ⟨m, fun _ => 0, ρ⟩ (fun r => ∀ c : Dev nD,
      r.2.mem ((c.tc : Thread nD τ).loc main_v3) = (dats m 0 c).arrAt 6 cfg0.N) :=
  (θ_run defs _ _).mono (fun _ h c => (h.1 c).1 6) (run_main m ρ)

end Cert.KernelEmbedIdeal.Embed

end
-- ==== Proof.Embed.Value.lean ====
module

public import proofs.«01_k».proof.Proof.Embed.Run
public import proofs.«01_k».proof.Proof.Mix.Row
public import Idealize.ShloMosaic.Lib.Pipeline.ValueKit

/-! The first feed-forward call's result over the extended reals, as a function of its arguments, row by row. -/

@[expose] public section

set_option maxRecDepth 16384

noncomputable section

namespace Cert.KernelEmbedIdeal.Embed

open Idealize.ShloMosaic Idealize.ShloMosaic.TcCoe
open Idealize.ShloMosaic.Pipeline (Dat Cfg Window)
open Cert.KernelEmbedIdeal.Gen

/-! ### The body's payloads, row by row -/

theorem eq_zero_of_ne_one {b : BitVec 1} (h : ¬ b = 1#1) : b = 0#1 := by
  revert h; revert b; decide

/-- The row the layer takes, in a block: with `first` the 16 meta tokens come before the embeddings' rows. -/
def rowIn (first : Prop) [Decidable first] (x0 : Vec Ideal S688x1024 .f32) (x1 : Vec Ideal S16x1024 .f32) (r : Fin 688) :
    Fin 1024 → EReal := fun k =>
  if first then (if h : r.val < 16 then x1 (ix2 ⟨r.val, h⟩ k) else x0 (ix2 ⟨r.val - 16, by omega⟩ k)) else x0 (ix2 r k)

/-- The select between the shifted block and the block itself, at an index. -/
theorem pay5_apply (a : BitVec 32) (x0 : Vec Ideal S688x1024 .f32) (x1 : Vec Ideal S16x1024 .f32) (r : Fin 688)
    (k : Fin 1024) : k0_pay5 a x0 x1 (ix2 r k)
      = rowIn (Scalar.cmpi .eq (Scalar.remsi (Scalar.subi a 8#32) 3#32) 0#32 = 1#1) x0 x1 r k := by
  by_cases h : Scalar.cmpi .eq (Scalar.remsi (Scalar.subi a 8#32) 3#32) 0#32 = 1#1
  · unfold k0_pay5 rowIn
    rw [if_pos h]
    simp only [h]
    pointwise []
  · unfold k0_pay5 rowIn
    rw [if_neg h]
    simp only [eq_zero_of_ne_one h]
    pointwise []

/-- The feed-forward layer's row before its norm, of the block the select gives. -/
theorem pay6_apply (a : BitVec 32) (x0 : Vec Ideal S688x1024 .f32) (x1 : Vec Ideal S16x1024 .f32) (x2 : Vec Ideal S1x1x1024 .f32)
    (s0 : Vec Ideal S1024x5632 .bf16) (s1 : Vec Ideal S2816x1024 .bf16) (r : Fin 688) (j : Fin 1024) :
    k0_pay6 a x0 x1 x2 s0 s1 (ix2 r j)
      = Row.swiglu (Row.rms (fun k => k0_pay5 a x0 x1 (ix2 r k)) (fun k => x2 (ix3 0 0 k))) (fun k q => s0 (ix2 k q))
          (fun q k => s1 (ix2 q k)) j := by
  pointwise [k0_pay6]
  rfl

/-- The stored block at row `r`: the feed-forward layer of the row the select gives. -/
theorem blockOut_apply (a : BitVec 32) (x0 : Vec Ideal S688x1024 .f32) (x1 : Vec Ideal S16x1024 .f32)
    (x2 x5 : Vec Ideal S1x1x1024 .f32) (s0 : Vec Ideal S1024x5632 .bf16) (s1 : Vec Ideal S2816x1024 .bf16) (r : Fin 688)
    (j : Fin 1024) :
    blockOut a x0 x1 x2 x5 s0 s1 (ix2 r j)
      = Row.ffn (fun k => k0_pay5 a x0 x1 (ix2 r k)) (fun k => x2 (ix3 0 0 k)) (fun k => x5 (ix3 0 0 k))
          (fun k q => s0 (ix2 k q)) (fun q k => s1 (ix2 q k)) j := by
  pointwise [blockOut, k0_pay4, k0_pay7, k0_pay8]
  simp only [pay6_apply]
  rfl

/-! ### The blocks, read off the arguments -/

variable (m : (ℓ : Loc nD τ sig) → Buf (Elt Ideal) ℓ)

/-- Where the blocks of point `t` begin. -/
theorem idx_in : ∀ t : Fin cfg0.N, win0_0.index t = ![(t.val - 8) / 3 * 2048 + ((t.val - 8) % 3 * 688 - 16), 0]
    ∧ win0_1.index t = ![0, 0] ∧ win0_2.index t = ![0, 0, 0] ∧ win0_3.index t = ![0, min t.val 7, 0]
    ∧ win0_4.index t = ![0, min t.val 7, 0] ∧ win0_5.index t = ![1, 0, 0] ∧ win0_6.index t = ![t.val - 8, 0] := by
  decide +kernel

/-- The body's test, whether a working point's block is the first of its sequence. -/
theorem first_iff : ∀ t : Fin cfg0.N, 8 ≤ t.val →
    (Scalar.cmpi .eq (Scalar.remsi (Scalar.subi (BitVec.ofNat 32 (grid0.coords t 0).val) 8#32) 3#32) 0#32 = 1#1
      ↔ (t.val - 8) % 3 = 0) := by decide +kernel

/-- The row of the reshaped embeddings where the block of point `t` begins, `r` rows on. -/
def row (t : Fin cfg0.N) (r : Fin 688) : Fin 16384 :=
  ⟨(t.val - 8) / 3 * 2048 + ((t.val - 8) % 3 * 688 - 16) + r.val, by
    have := lt_of_lt_of_eq t.isLt N_0; omega⟩

/-- The embeddings, reshaped to rows, at an index. -/
theorem rows_apply (c : Dev nD) (r : Fin 16384) (k : Fin 1024) :
    (V m c main_v1 : Vec Ideal S16384x1024 .f32) (ix2 r k)
      = m ((c : Thread nD τ).loc main_arg0) (ix3 ⟨r.val / 2048, by omega⟩ ⟨r.val % 2048, by omega⟩ k) := by
  entry_read
  pointwise

/-- The block of embeddings is 688 rows of the reshaped embeddings. -/
theorem blk_0 (c : Dev nD) (t : Fin cfg0.N) (r : Fin 688) (k : Fin 1024) :
    (iblk m c 0 t : Vec Ideal S688x1024 .f32) (ix2 r k)
      = m ((c : Thread nD τ).loc main_arg0) (ix3 ⟨(row t r).val / 2048, by omega⟩ ⟨(row t r).val % 2048, by omega⟩ k) := by
  have e : (win0_0.blk t).view.emb (ix2 r k) = ix2 (row t r) k := by
    funext a; apply Fin.ext; fin_cases a
    · exact (Window.rect_emb_val_off win0_0 t (ix2 r k) 0).trans (by rw [(idx_in t).1]; rfl)
    · exact (Window.rect_emb_val_off win0_0 t (ix2 r k) 1).trans (by rw [(idx_in t).1]; exact Nat.zero_add _)
  exact (congrArg (V m c main_v1) e).trans (rows_apply m c (row t r) k)

/-- The meta tokens' block is their whole array. -/
theorem blk_1 (c : Dev nD) (t : Fin cfg0.N) (r : Fin 16) (k : Fin 1024) :
    (iblk m c 1 t : Vec Ideal S16x1024 .f32) (ix2 r k) = m ((c : Thread nD τ).loc main_arg1) (ix2 r k) := by
  blk_ext [iblk, V_main_arg1, idx_in t]

/-! The norm rows' blocks are rows 0 and 1 of layer 0's norm weights. -/

theorem blk_2 (c : Dev nD) (t : Fin cfg0.N) (k : Fin 1024) :
    (iblk m c 2 t : Vec Ideal S1x1x1024 .f32) (ix3 0 0 k) = m ((c : Thread nD τ).loc main_arg2) (ix3 0 0 k) := by
  blk_point [iblk, idx_in t]

theorem blk_5 (c : Dev nD) (t : Fin cfg0.N) (k : Fin 1024) :
    (iblk m c 5 t : Vec Ideal S1x1x1024 .f32) (ix3 0 0 k) = m ((c : Thread nD τ).loc main_arg2) (ix3 0 1 k) := by
  blk_point [iblk, idx_in t]

/-- A loading point's tile of the first weight. -/
theorem blk_3 (c : Dev nD) (t : Fin cfg0.N) (ht : t.val < 8) (r : Fin 128) (q : Fin 5632) :
    (iblk m c 3 t : Vec Ideal S1x128x5632 .f32) (ix3 0 r q)
      = m ((c : Thread nD τ).loc main_arg3) (ix3 0 ⟨t.val * 128 + r.val, by omega⟩ q) := by
  blk_ext [iblk, V_main_arg3, idx_in t]

/-- A loading point's tile of the second weight. -/
theorem blk_4 (c : Dev nD) (t : Fin cfg0.N) (ht : t.val < 8) (r : Fin 352) (k : Fin 1024) :
    (iblk m c 4 t : Vec Ideal S1x352x1024 .f32) (ix3 0 r k)
      = m ((c : Thread nD τ).loc main_arg4) (ix3 0 ⟨t.val * 352 + r.val, by omega⟩ k) := by
  blk_ext [iblk, V_main_arg4, idx_in t]

/-- The cast of a tile of the first weight, at an index. -/
theorem pay1_apply (x : Vec Ideal S1x128x5632 .f32) (r : Fin 128) (q : Fin 5632) : k0_pay1 x (ix2 r q) = x (ix3 0 r q) := by
  pointwise [k0_pay1]

/-- The cast of a tile of the second weight, at an index. -/
theorem pay2_apply (x : Vec Ideal S1x352x1024 .f32) (r : Fin 352) (k : Fin 1024) : k0_pay2 x (ix2 r k) = x (ix3 0 r k) := by
  pointwise [k0_pay2]

/-- The first scratch, filled, is layer 0 of the first weight. -/
theorem castIn_apply (c : Dev nD) (k : Fin 1024) (q : Fin 5632) :
    castIn m c (ix2 k q) = m ((c : Thread nD τ).loc main_arg3) (ix3 0 k q) := by
  refine (pay1_apply _ ⟨k.val % 128, Nat.mod_lt _ (by decide)⟩ q).trans
    ((blk_3 m c _ (Nat.div_lt_of_lt_mul k.isLt) _ q).trans ?_)
  congr 2
  exact Fin.ext (Nat.div_add_mod' _ _)

/-- The second scratch, filled, is layer 0 of the second weight. -/
theorem castOut_apply (c : Dev nD) (q : Fin 2816) (k : Fin 1024) :
    castOut m c (ix2 q k) = m ((c : Thread nD τ).loc main_arg4) (ix3 0 q k) := by
  refine (pay2_apply _ ⟨q.val % 352, Nat.mod_lt _ (by decide)⟩ k).trans
    ((blk_4 m c _ (Nat.div_lt_of_lt_mul q.isLt) _ k).trans ?_)
  congr 2
  exact Fin.ext (Nat.div_add_mod' _ _)

/-! ### The result -/

/-- The row that row `r` of the result is computed from: a meta token at the first 16 positions of a sequence, the
sequence's embeddings after. -/
def src (c : Dev nD) (r : Fin 16512) : Fin 1024 → EReal := fun k =>
  if h : r.val % 2064 < 16 then m ((c : Thread nD τ).loc main_arg1) (ix2 ⟨r.val % 2064, h⟩ k)
  else m ((c : Thread nD τ).loc main_arg0) (ix3 ⟨r.val / 2064, by omega⟩ ⟨r.val % 2064 - 16, by omega⟩ k)

/-- The call's result as a function of its arguments: each row the feed-forward layer of its row. -/
def result (c : Dev nD) : Vec Ideal S16512x1024 .f32 := fun i =>
  Row.ffn (src m c (i 0))
    (fun k => m ((c : Thread nD τ).loc main_arg2) (ix3 0 0 k)) (fun k => m ((c : Thread nD τ).loc main_arg2) (ix3 0 1 k))
    (fun k q => m ((c : Thread nD τ).loc main_arg3) (ix3 0 k q)) (fun q k => m ((c : Thread nD τ).loc main_arg4) (ix3 0 q k))
    (i 1)

/-- A working point's block is the result's block of that point. -/
theorem outBlock_apply (c : Dev nD) (t : Fin cfg0.N) (ht : 8 ≤ t.val) (r : Fin 688) (j : Fin 1024) (i : S16512x1024.Idx)
    (h0 : (i 0).val = (t.val - 8) * 688 + r.val) (h1 : (i 1).val = j.val) :
    outBlock m c t (ix2 r j) = result m c i := by
  have hj : i 1 = j := Fin.ext h1
  unfold outBlock result
  rw [if_neg (by omega), blockOut_apply, hj]
  have hs : (fun k => k0_pay5 (BitVec.ofNat 32 (grid0.coords t 0).val) (iblk m c 0 t) (iblk m c 1 t) (ix2 r k)) = src m c (i 0) := by
    funext k
    have hr := r.isLt
    have hN := lt_of_lt_of_eq t.isLt N_0
    rw [pay5_apply]
    unfold rowIn src
    have at_row (q : Fin 688) (hq : (row t q).val = (i 0).val / 2064 * 2048 + ((i 0).val % 2064 - 16)) (hp : 16 ≤ (i 0).val % 2064) :
        (iblk m c 0 t : Vec Ideal S688x1024 .f32) (ix2 q k)
          = m ((c : Thread nD τ).loc main_arg0) (ix3 ⟨(i 0).val / 2064, by omega⟩ ⟨(i 0).val % 2064 - 16, by omega⟩ k) := by
      rw [blk_0]
      refine congrArg _ (congrArg₂ (fun a b => ix3 a b k) (Fin.ext ?_) (Fin.ext ?_))
      · show (row t q).val / 2048 = (i 0).val / 2064
        omega
      · show (row t q).val % 2048 = (i 0).val % 2064 - 16
        omega
    by_cases hf : (t.val - 8) % 3 = 0
    · rw [if_pos ((first_iff t ht).mpr hf)]
      by_cases h16 : r.val < 16
      · rw [dif_pos h16, dif_pos (by omega), blk_1]
        exact congrArg _ (congrArg (fun a => ix2 a k) (Fin.ext (by show r.val = (i 0).val % 2064; omega)))
      · rw [dif_neg h16, dif_neg (by omega)]
        exact at_row _ (by show (t.val - 8) / 3 * 2048 + ((t.val - 8) % 3 * 688 - 16) + (r.val - 16) = _; omega) (by omega)
    · rw [if_neg (fun h => hf ((first_iff t ht).mp h)), dif_neg (by omega)]
      exact at_row _ (by show (t.val - 8) / 3 * 2048 + ((t.val - 8) % 3 * 688 - 16) + r.val = _; omega) (by omega)
  rw [hs]
  simp only [blk_2, blk_5, castIn_apply, castOut_apply]

theorem flush_iff : ∀ t : Fin cfg0.N, (cfg0.win 6).flush t = true → 8 ≤ t.val := by decide +kernel

/-- After the run the result's array holds `result`. -/
theorem result_eq (c : Dev nD) : (dats m 0 c).arrAt 6 cfg0.N = result m c := by
  refine (dats m 0 c).arrAt_eq_of_covers 6 _ (by decide +kernel) fun t hf y => ?_
  rw [after_6]
  have hy : (outBlock m c t : S688x1024.Idx → Ideal .f32) y = outBlock m c t (ix2 (y 0) (y 1)) :=
    congrArg _ (funext fun a => by fin_cases a <;> rfl)
  refine hy.trans (outBlock_apply m c t (flush_iff t hf) (y 0) (y 1) _ ?_ ?_)
  · exact (Window.rect_emb_val win0_6 t y 0).trans (by rw [(idx_in t).2.2.2.2.2.2]; rfl)
  · exact (Window.rect_emb_val win0_6 t y 1).trans (by rw [(idx_in t).2.2.2.2.2.2]; exact Nat.zero_add _)

end Cert.KernelEmbedIdeal.Embed
-- ==== Proof.Embed.Ref.lean ====
module

public import proofs.«01_k».proof.Proof.Gen.ReferenceEmbedIdeal.Read
public import proofs.«01_k».proof.Proof.Mix.Row

/-! What the reference of the first feed-forward call computes, row by row, over the extended reals. -/

@[expose] public section

set_option maxRecDepth 16384

noncomputable section

namespace Cert.ReferenceEmbedIdeal.Embed

open Idealize.ShloMosaic
open Cert.ReferenceEmbedIdeal Cert.ReferenceEmbedIdeal.Read

variable (x0 : Vec Ideal S8x2048x1024 .f32) (x1 : Vec Ideal S16x1024 .f32) (x2 : Vec Ideal S2x6x1024 .f32)
  (x3 : Vec Ideal S2x1024x5632 .f32) (x4 : Vec Ideal S2x2816x1024 .f32)

/-- The row the layer takes: a meta token at the first 16 positions, the sequence's embeddings after. -/
def hrow (b : Fin 8) (p : Fin 2064) : Fin 1024 → EReal := fun k =>
  if h : p.val < 16 then x1 (ix2 ⟨p.val, h⟩ k) else x0 (ix3 b ⟨p.val - 16, by omega⟩ k)

theorem hrow_apply (b : Fin 8) (p : Fin 2064) (j : Fin 1024) :
    val_main_v2 (F := Ideal) x0 x1 (ix3 b p j) = hrow x0 x1 b p j := by
  pointwise [val_main_v2, val_main_v1, val_main_v0]
  rfl

/-- The row, normalised for the feed-forward layer. -/
theorem v19_apply (b : Fin 8) (p : Fin 2064) (j : Fin 1024) :
    val_main_v19 (F := Ideal) x0 x1 x2 (ix3 b p j)
      = Row.rms (hrow x0 x1 b p) (fun k => x2 (ix3 0 0 k)) j := by
  pointwise [val_main_v19, val_main_v18, val_main_v17, val_main_v16, val_main_v15, val_main_v14, val_main_v13, val_main_v12, val_main_v11, val_main_v10, val_main_v9, val_main_v8,
    val_main_v7, val_main_v6, val_main_v5, val_main_v4, val_main_v3, val_main_cst, val_main_cst_0, val_main_cst_1, hrow_apply]
  rfl

/-- The hidden row's left half. -/
theorem v25_apply (b : Fin 8) (p : Fin 2064) (q : Fin 2816) :
    val_main_v25 (F := Ideal) x0 x1 x2 x3 (ix3 b p q)
      = Row.gate (Row.rms (hrow x0 x1 b p) (fun k => x2 (ix3 0 0 k))) (fun k j => x3 (ix3 0 k j)) q := by
  pointwise [val_main_v25, val_main_v24, val_main_v21, val_main_v20, v19_apply]
  rfl

/-- The hidden row's right half. -/
theorem v26_apply (b : Fin 8) (p : Fin 2064) (q : Fin 2816) :
    val_main_v26 (F := Ideal) x0 x1 x2 x3 (ix3 b p q)
      = Row.up (Row.rms (hrow x0 x1 b p) (fun k => x2 (ix3 0 0 k))) (fun k j => x3 (ix3 0 k j)) q := by
  pointwise [val_main_v26, val_main_v24, val_main_v21, val_main_v20, v19_apply]
  rfl

/-- The logistic function of the left half, as the reference writes it out. -/
theorem sig_apply (b : Fin 8) (p : Fin 2064) (q : Fin 2816) :
    val_main_call0_v5 (F := Ideal) x0 x1 x2 x3 (ix3 b p q) = Ideal.logistic (val_main_v25 (F := Ideal) x0 x1 x2 x3 (ix3 b p q)) := by
  pointwise [val_main_call0_v5, val_main_call0_v4, val_main_call0_v3, val_main_call0_v2, val_main_call0_v1,
    val_main_call0_v0, val_main_call0_cst, val_main_call0_cst_0]
  rfl

/-- The feed-forward layer's row before its norm. -/
theorem v29_apply (b : Fin 8) (p : Fin 2064) (j : Fin 1024) :
    val_main_v29 (F := Ideal) x0 x1 x2 x3 x4 (ix3 b p j)
      = Row.swiglu (Row.rms (hrow x0 x1 b p) (fun k => x2 (ix3 0 0 k))) (fun k j => x3 (ix3 0 k j))
          (fun k j => x4 (ix3 0 k j)) j := by
  pointwise [val_main_v29, val_main_v28, val_main_v27, val_main_v23, val_main_v22]
  simp only [sig_apply, v25_apply, v26_apply]
  rfl

/-- The layer's row: half the normalised feed-forward value added. -/
theorem v47_apply (b : Fin 8) (p : Fin 2064) (j : Fin 1024) :
    val_main_v47 (F := Ideal) x0 x1 x2 x3 x4 (ix3 b p j)
      = Row.ffn (hrow x0 x1 b p) (fun k => x2 (ix3 0 0 k)) (fun k => x2 (ix3 0 1 k)) (fun k j => x3 (ix3 0 k j))
          (fun k j => x4 (ix3 0 k j)) j := by
  pointwise [val_main_v47, val_main_v46, val_main_v45, val_main_v44, val_main_v43, val_main_v42, val_main_v41, val_main_v40, val_main_v39,
    val_main_v38, val_main_v37, val_main_v36, val_main_v35, val_main_v34, val_main_v33, val_main_v32, val_main_v31, val_main_v30, val_main_v4, val_main_v3,
    val_main_cst_2, val_main_cst_3, val_main_cst_4, val_main_cst_5, hrow_apply, v29_apply]
  rfl

/-- The result's row `r` is the layer's row of position `r % 2064` of sequence `r / 2064`. -/
theorem v48_apply (r : Fin 16512) (j : Fin 1024) :
    val_main_v48 (F := Ideal) x0 x1 x2 x3 x4 (ix2 r j)
      = val_main_v47 (F := Ideal) x0 x1 x2 x3 x4 (ix3 ⟨r.val / 2064, by omega⟩ ⟨r.val % 2064, by omega⟩ j) := by
  pointwise [val_main_v48]

end Cert.ReferenceEmbedIdeal.Embed
-- ==== Proof.Embed.Agree.lean ====
module

public import proofs.«01_k».proof.Defs
public import proofs.«01_k».proof.Proof.Embed.Value
public import proofs.«01_k».proof.Proof.Embed.Ref
public import proofs.«01_k».proof.Proof.Gen.KernelEmbed

/-! The first feed-forward call and its reference leave one result from the same arguments. -/

@[expose] public section

set_option maxRecDepth 16384

noncomputable section

namespace Cert.Embed

open Idealize.ShloMosaic Idealize.SL.Sem

/-- The reference's result, on the arguments the kernel reads, is the kernel's. -/
theorem ref_result (m : (ℓ : Loc KernelEmbedIdeal.nD KernelEmbedIdeal.τ KernelEmbedIdeal.sig) → Buf (Elt Ideal) ℓ) (c : Dev KernelEmbedIdeal.nD) :
    ReferenceEmbedIdeal.Read.val_main_v48 (F := Ideal) (m ((c.tc : Thread KernelEmbedIdeal.nD KernelEmbedIdeal.τ).loc KernelEmbedIdeal.main_arg0))
      (m ((c.tc : Thread KernelEmbedIdeal.nD KernelEmbedIdeal.τ).loc KernelEmbedIdeal.main_arg1))
      (m ((c.tc : Thread KernelEmbedIdeal.nD KernelEmbedIdeal.τ).loc KernelEmbedIdeal.main_arg2))
      (m ((c.tc : Thread KernelEmbedIdeal.nD KernelEmbedIdeal.τ).loc KernelEmbedIdeal.main_arg3))
      (m ((c.tc : Thread KernelEmbedIdeal.nD KernelEmbedIdeal.τ).loc KernelEmbedIdeal.main_arg4))
      = KernelEmbedIdeal.Embed.result m c := by
  funext i
  rw [show i = ix2 (i 0) (i 1) from funext fun a => by fin_cases a <;> rfl]
  exact (ReferenceEmbedIdeal.Embed.v48_apply _ _ _ _ _ (i 0) (i 1)).trans (ReferenceEmbedIdeal.Embed.v47_apply _ _ _ _ _ _ _ _)

/-- From the same arguments the kernel and the reference end with the same result, over the extended reals. -/
theorem algebraic [hKernelEmbedIdeal : KernelEmbedIdeal.Facts] [hReferenceEmbedIdeal : ReferenceEmbedIdeal.Facts] :
    algebraic_KernelEmbedIdeal_ReferenceEmbedIdeal := fun m g m' g' _ hin =>
  ⟨KernelEmbedIdeal.Embed.result m,
    (θ_run _ _ _).mono (fun r h c => ⟨(h.1 c).trans (KernelEmbedIdeal.Embed.result_eq m c), h.2.1 c⟩)
      (θ_run_and (KernelEmbedIdeal.Embed.result_run m g) (KernelEmbedIdeal.Embed.frame m g)),
    (θ_run _ _ _).mono (fun r h c => ⟨by
        obtain ⟨h0, h1, h2, h3, h4⟩ := hin c
        have hr := ref_result m c
        rw [← h0, ← h1, ← h2, ← h3, ← h4] at hr
        exact (h c).1.trans ((ReferenceEmbedIdeal.Read.val_main_v48_eq _ c).trans hr), (h c).2⟩)
      (ReferenceEmbedIdeal.Value.run m' g')⟩

/-- Every run of the reference ends with the arguments as they were and the counters, of which it has none, at zero. -/
theorem frame_ref [hReferenceEmbedIdeal : ReferenceEmbedIdeal.Facts] : quiescent_ReferenceEmbedIdeal := fun m ρ _ =>
  (θ_run _ _ _).mono (fun r h => ⟨fun c => (h c).2, sem_eq_zero_of_no_sems (by decide) r.2⟩)
    (ReferenceEmbedIdeal.Value.run m ρ)

/-- The kernel's program is the ideal kernel's, read at any memory. -/
theorem same_program (m : (ℓ : Loc KernelEmbed.nD KernelEmbed.τ KernelEmbed.sig) → Buf (Elt Bits) ℓ) (ρ : Dev KernelEmbed.nD → PrngReg) :
    θ_run (KernelEmbed.defs (F := Bits)) (onTc (τ := KernelEmbed.τ) (KernelEmbed.main (F := Bits))) ⟨m, fun _ => 0, ρ⟩
      = θ_run (KernelEmbedIdeal.defs (F := Bits)) (onTc (τ := KernelEmbedIdeal.τ) (KernelEmbedIdeal.main (F := Bits))) ⟨m, fun _ => 0, ρ⟩ := by
  sl_kernel_rfl

/-- Every run of the kernel, at the machine's floats, ends with the arguments as they were and the counters at zero. -/
theorem frame_kernel : quiescent_KernelEmbed (hKernelEmbed := KernelEmbed.Gen.facts) := fun m ρ _ => by
  rw [same_program]
  exact KernelEmbedIdeal.Embed.frame (F := Bits) m ρ

end Cert.Embed
-- ==== Proof.lean ====
/- The claims about the four feed-forward calls, five for each: each program's frame, the ideal kernel's text being the
   kernel's, and the ideal kernel's result being the reference's over the extended reals. -/
module

public import proofs.«01_k».proof.Defs
public import proofs.«01_k».proof.Proof.Gen.Kernel
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Mix.Agree
public import proofs.«01_k».proof.Proof.Gen.KernelMix0
public import proofs.«01_k».proof.Proof.Gen.KernelMix0Ideal.Skeleton
public import proofs.«01_k».proof.Proof.Gen.KernelMix0Ideal.Launch
public import proofs.«01_k».proof.Proof.Gen.KernelMix0Ideal.Points
public import proofs.«01_k».proof.Proof.Gen.KernelMix0Ideal.Frame
public import proofs.«01_k».proof.Proof.Gen.ReferenceMix0Ideal.Run
public import proofs.«01_k».proof.Proof.Gen.ReferenceMix0Ideal.Read
public import proofs.«01_k».proof.Proof.Mix0.Agree
public import proofs.«01_k».proof.Proof.Gen.KernelFfn1
public import proofs.«01_k».proof.Proof.Gen.KernelFfn1Ideal.Skeleton
public import proofs.«01_k».proof.Proof.Gen.KernelFfn1Ideal.Launch
public import proofs.«01_k».proof.Proof.Gen.KernelFfn1Ideal.Points
public import proofs.«01_k».proof.Proof.Gen.KernelFfn1Ideal.Frame
public import proofs.«01_k».proof.Proof.Gen.ReferenceFfn1Ideal.Run
public import proofs.«01_k».proof.Proof.Gen.ReferenceFfn1Ideal.Read
public import proofs.«01_k».proof.Proof.Ffn1.Agree
public import proofs.«01_k».proof.Proof.Gen.KernelEmbed
public import proofs.«01_k».proof.Proof.Gen.KernelEmbedIdeal.Skeleton
public import proofs.«01_k».proof.Proof.Gen.KernelEmbedIdeal.Launch
public import proofs.«01_k».proof.Proof.Gen.KernelEmbedIdeal.Points
public import proofs.«01_k».proof.Proof.Gen.KernelEmbedIdeal.Frame
public import proofs.«01_k».proof.Proof.Gen.ReferenceEmbedIdeal.Run
public import proofs.«01_k».proof.Proof.Gen.ReferenceEmbedIdeal.Read
public import proofs.«01_k».proof.Proof.Embed.Agree
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Cert.KernelMix0.Gen.facts, Cert.KernelMix0Ideal.Gen.facts, Cert.ReferenceMix0Ideal.Gen.facts,
  Cert.KernelFfn1.Gen.facts, Cert.KernelFfn1Ideal.Gen.facts, Cert.ReferenceFfn1Ideal.Gen.facts,
  Cert.KernelEmbed.Gen.facts, Cert.KernelEmbedIdeal.Gen.facts, Cert.ReferenceEmbedIdeal.Gen.facts,
  Cert.Mix.frame_kernel, fun m ρ _ => Cert.KernelIdeal.Mix.frame m ρ, Cert.Mix.frame_ref,
  Cert.Mix0.frame_kernel, fun m ρ _ => Cert.KernelMix0Ideal.Mix.frame m ρ, Cert.Mix0.frame_ref,
  Cert.Ffn1.frame_kernel, fun m ρ _ => Cert.KernelFfn1Ideal.Ffn.frame m ρ, Cert.Ffn1.frame_ref,
  Cert.Embed.frame_kernel, fun m ρ _ => Cert.KernelEmbedIdeal.Embed.frame m ρ, Cert.Embed.frame_ref,
  trivial, Cert.Mix.algebraic, trivial, Cert.Mix0.algebraic, trivial, Cert.Ffn1.algebraic, trivial, Cert.Embed.algebraic⟩

end Cert.Proof

end
